-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x8 : Shape := ⟨3, ![8, 1024, 8]⟩
abbrev S8x4096x7 : Shape := ⟨3, ![8, 4096, 7]⟩
abbrev S8x10x1024x8 : Shape := ⟨4, ![8, 10, 1024, 8]⟩
abbrev S8x1024x2 : Shape := ⟨3, ![8, 1024, 2]⟩
abbrev S8x4096x2 : Shape := ⟨3, ![8, 4096, 2]⟩
abbrev S8x2x4096 : Shape := ⟨3, ![8, 2, 4096]⟩
abbrev S8x1024x4 : Shape := ⟨3, ![8, 1024, 4]⟩
abbrev S1x256x2 : Shape := ⟨3, ![1, 256, 2]⟩
abbrev S1x2x4096 : Shape := ⟨3, ![1, 2, 4096]⟩
abbrev S1x256x4 : Shape := ⟨3, ![1, 256, 4]⟩
abbrev S1x256x1 : Shape := ⟨3, ![1, 256, 1]⟩
abbrev S256x1 : Shape := ⟨2, ![256, 1]⟩
abbrev S1x1x4096 : Shape := ⟨3, ![1, 1, 4096]⟩
abbrev S1x4096 : Shape := ⟨2, ![1, 4096]⟩
abbrev S256x4096 : Shape := ⟨2, ![256, 4096]⟩
abbrev S256 : Shape := ⟨1, ![256]⟩
abbrev S256x4 : Shape := ⟨2, ![256, 4]⟩
abbrev S_ : Shape := ⟨0, ![]⟩
abbrev S8x4097x16 : Shape := ⟨3, ![8, 4097, 16]⟩
abbrev S1 : Shape := ⟨1, ![1]⟩
abbrev S2 : Shape := ⟨1, ![2]⟩
abbrev S32776x16 : Shape := ⟨2, ![32776, 16]⟩
abbrev S32x8x128 : Shape := ⟨3, ![32, 8, 128]⟩
abbrev S32768x16 : Shape := ⟨2, ![32768, 16]⟩
abbrev S8x128 : Shape := ⟨2, ![8, 128]⟩
abbrev S1024x16 : Shape := ⟨2, ![1024, 16]⟩
abbrev S1x8x128 : Shape := ⟨3, ![1, 8, 128]⟩
abbrev S128x16 : Shape := ⟨2, ![128, 16]⟩
abbrev S1x128 : Shape := ⟨2, ![1, 128]⟩
abbrev S128 : Shape := ⟨1, ![128]⟩
abbrev S8x1024x4x16 : Shape := ⟨4, ![8, 1024, 4, 16]⟩
abbrev S8x1024x4x8 : Shape := ⟨4, ![8, 1024, 4, 8]⟩
abbrev S8x1024x1x8 : Shape := ⟨4, ![8, 1024, 1, 8]⟩
abbrev S8x1024x5x8 : Shape := ⟨4, ![8, 1024, 5, 8]⟩
abbrev S8x1x1024x5x8 : Shape := ⟨5, ![8, 1, 1024, 5, 8]⟩
abbrev S8x10x1024x1x8 : Shape := ⟨5, ![8, 10, 1024, 1, 8]⟩
abbrev S8x10x1024x5x8 : Shape := ⟨5, ![8, 10, 1024, 5, 8]⟩
abbrev S8x11x1024x5x8 : Shape := ⟨5, ![8, 11, 1024, 5, 8]⟩

abbrev nBuf : Table → Nat
  | .hbm => 30
  | .local .tc .vmem => 8
  | .local .scVector .vmem => 2
  | _ => 0

abbrev bufTy : (tb : Table) → Fin (nBuf tb) → BufTy
  | .hbm, ⟨0, _⟩ => ⟨S8x1024x8, .f32⟩
  | .hbm, ⟨1, _⟩ => ⟨S8x4096x7, .f32⟩
  | .hbm, ⟨2, _⟩ => ⟨S8x10x1024x8, .f32⟩
  | .hbm, ⟨3, _⟩ => ⟨S8x1024x2, .f32⟩
  | .hbm, ⟨4, _⟩ => ⟨S8x4096x2, .f32⟩
  | .hbm, ⟨5, _⟩ => ⟨S8x2x4096, .f32⟩
  | .hbm, ⟨6, _⟩ => ⟨S8x1024x4, .i32⟩
  | .hbm, ⟨7, _⟩ => ⟨S8x1024x4, .i32⟩
  | .hbm, ⟨8, _⟩ => ⟨S_, .f32⟩
  | .hbm, ⟨9, _⟩ => ⟨S8x4097x16, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x4097x16, .f32⟩
  | .hbm, ⟨16, _⟩ => ⟨S32776x16, .f32⟩
  | .hbm, ⟨17, _⟩ => ⟨S32x8x128, .i32⟩
  | .hbm, ⟨18, _⟩ => ⟨S32768x16, .f32⟩
  | .hbm, ⟨19, _⟩ => ⟨S8x1024x4x16, .f32⟩
  | .hbm, ⟨20, _⟩ => ⟨S8x1024x4x8, .f32⟩
  | .hbm, ⟨21, _⟩ => ⟨S8x1024x1x8, .f32⟩
  | .hbm, ⟨22, _⟩ => ⟨S8x1024x5x8, .f32⟩
  | .hbm, ⟨23, _⟩ => ⟨S8x1x1024x5x8, .f32⟩
  | .hbm, ⟨24, _⟩ => ⟨S8x10x1024x1x8, .f32⟩
  | .hbm, ⟨25, _⟩ => ⟨S8x10x1024x5x8, .f32⟩
  | .hbm, ⟨26, _⟩ => ⟨S8x11x1024x5x8, .f32⟩
  | .hbm, ⟨27, _⟩ => ⟨S_, .i32⟩
  | .hbm, ⟨28, _⟩ => ⟨S8x1024x4, .i32⟩
  | .hbm, ⟨29, _⟩ => ⟨S8x1024x4, .i1⟩
  | .local .tc .vmem, ⟨0, _⟩ => ⟨S1x256x2, .f32⟩
  | .local .tc .vmem, ⟨1, _⟩ => ⟨S1x256x2, .f32⟩
  | .local .tc .vmem, ⟨2, _⟩ => ⟨S1x2x4096, .f32⟩
  | .local .tc .vmem, ⟨3, _⟩ => ⟨S1x2x4096, .f32⟩
  | .local .tc .vmem, ⟨4, _⟩ => ⟨S1x256x4, .i32⟩
  | .local .tc .vmem, ⟨5, _⟩ => ⟨S1x256x4, .i32⟩
  | .local .tc .vmem, ⟨6, _⟩ => ⟨S1x256x4, .i32⟩
  | .local .tc .vmem, ⟨7, _⟩ => ⟨S1x256x4, .i32⟩
  | .local .scVector .vmem, ⟨0, _⟩ => ⟨S8x128, .i32⟩
  | .local .scVector .vmem, ⟨1, _⟩ => ⟨S1024x16, .f32⟩
  | _, _ => ⟨S8x1024x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v9_scv : Ref sig .scVector := ⟨.hbm, 16, rfl⟩
abbrev main_v10_scv : Ref sig .scVector := ⟨.hbm, 17, rfl⟩
abbrev main_v11_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_82_r0 : BitVec 32 := 0#32
  let c0_i32_83_r0 : BitVec 32 := 0#32
  ![v1.toNat, 0, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v66 : BitVec 32 := Scalar.muli v1 c1024_i32
  let c0_i32_82_r1 : BitVec 32 := 0#32
  ![v66.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x8 : Shape := ⟨3, ![8, 1024, 8]⟩
abbrev S8x4096x7 : Shape := ⟨3, ![8, 4096, 7]⟩
abbrev S8x10x1024x8 : Shape := ⟨4, ![8, 10, 1024, 8]⟩
abbrev S8x1024x2 : Shape := ⟨3, ![8, 1024, 2]⟩
abbrev S8x4096x2 : Shape := ⟨3, ![8, 4096, 2]⟩
abbrev S8x1024x1x2 : Shape := ⟨4, ![8, 1024, 1, 2]⟩
abbrev S8x1x4096x2 : Shape := ⟨4, ![8, 1, 4096, 2]⟩
abbrev S8x1024x4096x2 : Shape := ⟨4, ![8, 1024, 4096, 2]⟩
abbrev S_ : Shape := ⟨0, ![]⟩
abbrev S8x1024x4096 : Shape := ⟨3, ![8, 1024, 4096]⟩
abbrev S8x1024x4 : Shape := ⟨3, ![8, 1024, 4]⟩
abbrev S8x1x7 : Shape := ⟨3, ![8, 1, 7]⟩
abbrev S8x4097x7 : Shape := ⟨3, ![8, 4097, 7]⟩
abbrev S8 : Shape := ⟨1, ![8]⟩
abbrev S8x1x1 : Shape := ⟨3, ![8, 1, 1]⟩
abbrev S8x1024x4x1 : Shape := ⟨4, ![8, 1024, 4, 1]⟩
abbrev S8x1024x4x2 : Shape := ⟨4, ![8, 1024, 4, 2]⟩
abbrev S8x1024x4x7 : Shape := ⟨4, ![8, 1024, 4, 7]⟩
abbrev S8x1024x4x8 : Shape := ⟨4, ![8, 1024, 4, 8]⟩
abbrev S8x1x1024x1x8 : Shape := ⟨5, ![8, 1, 1024, 1, 8]⟩
abbrev S8x1x1024x4x8 : Shape := ⟨5, ![8, 1, 1024, 4, 8]⟩
abbrev S8x1x1024x5x8 : Shape := ⟨5, ![8, 1, 1024, 5, 8]⟩
abbrev S8x10x1024x1x8 : Shape := ⟨5, ![8, 10, 1024, 1, 8]⟩
abbrev S8x10x1024x1x5x8 : Shape := ⟨6, ![8, 10, 1024, 1, 5, 8]⟩
abbrev S8x10x1024x5x8 : Shape := ⟨5, ![8, 10, 1024, 5, 8]⟩
abbrev S8x11x1024x5x8 : Shape := ⟨5, ![8, 11, 1024, 5, 8]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x8, .f32⟩
  | .hbm, ⟨1, _⟩ => ⟨S8x4096x7, .f32⟩
  | .hbm, ⟨2, _⟩ => ⟨S8x10x1024x8, .f32⟩
  | .hbm, ⟨3, _⟩ => ⟨S8x1024x2, .f32⟩
  | .hbm, ⟨4, _⟩ => ⟨S8x4096x2, .f32⟩
  | .hbm, ⟨5, _⟩ => ⟨S8x1024x1x2, .f32⟩
  | .hbm, ⟨6, _⟩ => ⟨S8x1x4096x2, .f32⟩
  | .hbm, ⟨7, _⟩ => ⟨S8x1024x4096x2, .f32⟩
  | .hbm, ⟨8, _⟩ => ⟨S8x1024x4096x2, .f32⟩
  | .hbm, ⟨9, _⟩ => ⟨S8x1024x4096x2, .f32⟩
  | .hbm, ⟨10, _⟩ => ⟨S8x1024x4096x2, .f32⟩
  | .hbm, ⟨11, _⟩ => ⟨S_, .f32⟩
  | .hbm, ⟨12, _⟩ => ⟨S8x1024x4096, .f32⟩
  | .hbm, ⟨13, _⟩ => ⟨S_, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S8x1024x4, .f32⟩
  | .hbm, ⟨19, _⟩ => ⟨S8x1024x4, .i32⟩
  | .hbm, ⟨20, _⟩ => ⟨S8x1024x4, .f32⟩
  | .hbm, ⟨21, _⟩ => ⟨S_, .f32⟩
  | .hbm, ⟨22, _⟩ => ⟨S8x1024x4, .f32⟩
  | .hbm, ⟨23, _⟩ => ⟨S8x1024x4, .i1⟩
  | .hbm, ⟨24, _⟩ => ⟨S_, .i32⟩
  | .hbm, ⟨25, _⟩ => ⟨S_, .i32⟩
  | .hbm, ⟨26, _⟩ => ⟨S8x1024x4, .i32⟩
  | .hbm, ⟨27, _⟩ => ⟨S8x1024x4, .i32⟩
  | .hbm, ⟨28, _⟩ => ⟨S_, .f32⟩
  | .hbm, ⟨29, _⟩ => ⟨S8x1x7, .f32⟩
  | .hbm, ⟨30, _⟩ => ⟨S8x4097x7, .f32⟩
  | .hbm, ⟨31, _⟩ => ⟨S8, .i32⟩
  | .hbm, ⟨32, _⟩ => ⟨S8x1x1, .i32⟩
  | .hbm, ⟨33, _⟩ => ⟨S_, .i32⟩
  | .hbm, ⟨34, _⟩ => ⟨S8x1x1, .i32⟩
  | .hbm, ⟨35, _⟩ => ⟨S8x1x1, .i1⟩
  | .hbm, ⟨36, _⟩ => ⟨S_, .i32⟩
  | .hbm, ⟨37, _⟩ => ⟨S8x1x1, .i32⟩
  | .hbm, ⟨38, _⟩ => ⟨S8x1x1, .i32⟩
  | .hbm, ⟨39, _⟩ => ⟨S8x1x1, .i32⟩
  | .hbm, ⟨40, _⟩ => ⟨S_, .i32⟩
  | .hbm, ⟨41, _⟩ => ⟨S8x1024x4, .i32⟩
  | .hbm, ⟨42, _⟩ => ⟨S8x1024x4, .i1⟩
  | .hbm, ⟨43, _⟩ => ⟨S_, .i32⟩
  | .hbm, ⟨44, _⟩ => ⟨S8x1024x4, .i32⟩
  | .hbm, ⟨45, _⟩ => ⟨S8x1024x4, .i32⟩
  | .hbm, ⟨46, _⟩ => ⟨S8x1024x4, .i32⟩
  | .hbm, ⟨47, _⟩ => ⟨S8x1024x4, .i32⟩
  | .hbm, ⟨48, _⟩ => ⟨S8x1024x4x1, .i32⟩
  | .hbm, ⟨49, _⟩ => ⟨S8x1024x4x1, .i32⟩
  | .hbm, ⟨50, _⟩ => ⟨S8x1024x4x2, .i32⟩
  | .hbm, ⟨51, _⟩ => ⟨S8x1024x4x7, .f32⟩
  | .hbm, ⟨52, _⟩ => ⟨S_, .f32⟩
  | .hbm, ⟨53, _⟩ => ⟨S8x1024x4x1, .f32⟩
  | .hbm, ⟨54, _⟩ => ⟨S8x1024x4x8, .f32⟩
  | .hbm, ⟨55, _⟩ => ⟨S8x1x1024x1x8, .f32⟩
  | .hbm, ⟨56, _⟩ => ⟨S8x1x1024x4x8, .f32⟩
  | .hbm, ⟨57, _⟩ => ⟨S8x1x1024x5x8, .f32⟩
  | .hbm, ⟨58, _⟩ => ⟨S8x10x1024x1x8, .f32⟩
  | .hbm, ⟨59, _⟩ => ⟨S8x10x1024x1x5x8, .f32⟩
  | .hbm, ⟨60, _⟩ => ⟨S8x10x1024x5x8, .f32⟩
  | .hbm, ⟨61, _⟩ => ⟨S8x11x1024x5x8, .f32⟩
  | _, _ => ⟨S8x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.GatherBatch.lean ====
/-
  Several indirect gathers outstanding on one DMA semaphore: each gather's rows are the next transfers of one batch of
  equal row transfers (Lib/Batch.lean), so that the batch's waits, sized to a whole gather each, drain them all.
-/
module

public import Idealize.ShloMosaic.Lib.Batch
public import Idealize.ShloMosaic.Lib.SparseCore.Ops
public import Idealize.ShloMosaic.Lib.SparseCore.Stream
public import Idealize.ShloMosaic.Lib.Tactic

@[expose] public section

noncomputable section

namespace Cert.Proof.GatherBatch

open Idealize.ShloMosaic Idealize.ShloMosaic.Transfers Idealize.ShloMosaic.SparseCore
open Idealize.SL
open Idealize.SL.BI (sProp Storable bigSep bigSep_union)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Member `r` of the next `o` members of a family of `n`, after its first `k`. -/
abbrev nth {n : ℕ} (k o : ℕ) (h : k + o ≤ n) (r : Fin o) : Fin n := ⟨k + r.val, by omega⟩

/-- Number `r` to member `k + r`, as an embedding. -/
def nthEmb {n : ℕ} (k o : ℕ) (h : k + o ≤ n) : Fin o ↪ Fin n :=
  ⟨nth k o h, fun a b e => Fin.ext (by have := congrArg Fin.val e; simp only at this; omega)⟩

/-- The members from `k` on are the next `o` and those from `k + o` on. -/
theorem bigSep_pending_add {M : Type} [URA M] {n : ℕ} (k o : ℕ) (h : k + o ≤ n) (Φ : Fin n → sProp M) :
    bigSep (pending (n := n) k) Φ = iprop(bigSep Finset.univ (fun r : Fin o => Φ (nth k o h r)) ∗ bigSep (pending (n := n) (k + o)) Φ) := by
  classical
  have hd : Disjoint (Finset.univ.map (nthEmb k o h)) (pending (n := n) (k + o)) := by
    rw [Finset.disjoint_left]
    intro t ht ht'
    obtain ⟨r, -, rfl⟩ := Finset.mem_map.mp ht
    have h1 : k + o ≤ k + r.val := (Finset.mem_filter.mp ht').2
    omega
  have hu : pending (n := n) k = Finset.univ.map (nthEmb k o h) ∪ pending (n := n) (k + o) := by
    ext t
    simp only [pending, Finset.mem_filter, Finset.mem_univ, true_and, Finset.mem_union, Finset.mem_map]
    constructor
    · intro ht
      by_cases hk : k + o ≤ t.val
      · exact .inr hk
      · exact .inl ⟨⟨t.val - k, by omega⟩, Fin.ext (by change k + (t.val - k) = t.val; omega)⟩
    · rintro (⟨r, rfl⟩ | ht)
      · exact Nat.le_add_right _ _
      · omega
  rw [hu, bigSep_union hd, BI.bigSep_map]
  rfl

section Rule

variable (c : Thread nD τ) {sp : Space} {s₀ s si : Shape} {e : EltTy} {a : Nat}
variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (hin : ∀ x, (offs.view.read (Elt F) fo x).toNat < s₀.size hg.axis)

/-- Where entry `j` of the offset list lies: the list's `j`-th index in row-major order. -/
abbrev entryAt (j : Fin (s.size hg.axis')) : si.Idx := si.rowMajor.symm (j.cast hn.symm)

/-- What row `j` of a gather moves: the source's row named by entry `j` of the offset list. -/
abbrev rowPayload (j : Fin (s.size hg.axis')) : (s.rowShape hg.axis').Idx → Elt F e :=
  fun i => src.view.read (Elt F) fs (hg.rowIdx (rows (offs.view.read (Elt F) fo) hn hin j) i)

/-- What row `j` of a gather delivers: the destination's row written with the source's row named by entry `j`, that
    entry's share back, and a piece of the source's share back. -/
def rowDelivery (j : Fin (s.size hg.axis')) : sProp 𝕄 :=
  iprop(((dst.view.loc c ↦[(dst.view.slice (s.rowRect hg.axis' j)).set]{fullShare}
        ((dst.view.slice (s.rowRect hg.axis' j)).write (Elt F) fd
          (rowPayload c src hg offs hn fs fo hin j) Finset.univ))
      ∗ (offs.view.loc c ↦[{offs.view.emb (entryAt hg hn j)}]{qo} fo))
    ∗ (src.view.loc c ↦[src.view.set]{pieceOf q _ ho j} fs))

instance rowDelivery_storable (j : Fin (s.size hg.axis')) :
    Storable (upEmb : UEmb _ 𝕄) (rowDelivery c src dst hg offs hn q qo fs fd fo ho hin j) := by
  unfold rowDelivery; infer_instance

/-- The rows' deliveries together: the destination written with the gather's payload, the source's share and the
    offset list's share. -/
theorem rowDelivery_join :
    bigSep Finset.univ (fun j => rowDelivery c src dst hg offs hn q qo fs fd fo ho hin j)
      ⊢ (iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  unfold rowDelivery
  have hen : Function.Bijective (entryAt (si := si) hg hn) := si.rowMajor.symm.bijective.comp (finCongr hn.symm).bijective
  iintro H
  ihave H := bigSep_sep_out _ _ _ $$ H
  icases H with ⟨H, Hs⟩
  ihave H := bigSep_sep_out _ _ _ $$ H
  icases H with ⟨Hd, Ho⟩
  isplitl [Hd]
  · iapply (pointsTo_rows_write c dst.view hg.axis' fd
      (rowPayload c src hg offs hn fs fo hin)
      (gatherPayload hg (src.view.read (Elt F) fs) (rows (offs.view.read (Elt F) fo) hn hin))
      (fun j i => by unfold rowPayload gatherPayload; rw [Shape.Gathers.idx_rowRect_emb])) $$ Hd
  isplitl [Hs]
  · iapply (Entails.of_eq (pointsTo_piecesOf src.view.set fs ho q).symm) $$ Hs
  · iapply (Entails.of_eq (pointsTo_entries c offs.view _ hen qo fo).symm) $$ Ho

variable {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)}

/-- An indirect gather whose rows are the next transfers of a batch of row transfers of `N` units: holding a share of
    the source, the destination outright, a share of the offset list with every word in range, and the batch with `k`
    row transfers issued, the tile issues the gather and goes on with the batch's next rows issued too. Each row's
    delivery must make the batch's for that transfer. -/
theorem wp_gather_batch [Infinite Name] [EC.LandsIn (upEmb : UEmb _ 𝕄)] {n : ℕ} {D : Fin n → sProp 𝕄}
    {sem : DmaSem sig} {hp : c.2.kind = .scVector} {hsrc : src.view.WordExact} {he : e.bits = 32} {hsp : sp = .hbm ∨ sp = .shared} {hr : s₀.StreamRows a}
    {k : PUnit → Prog (TpuEff nD τ sig (Elt F) Λ c.2) α} (ι : Ix) (N i u : ℕ)
    (hN : ∀ j, (dst.slice (s.rowRect hg.axis' j) (s.stride_rowRect hg.axis' j)).view.dmaCredit = N)
    (hi : i + s.size hg.axis' ≤ n) (hu : u ≤ i * N)
    (hD : ∀ j, rowDelivery c src dst hg offs hn q qo fs fd fo ho hin j ⊢ D (nth i (s.size hg.axis') hi j)) :
    iprop((src.view.loc c ↦[src.view.set]{q} fs) ∗ (dst.view.loc c ↦[dst.view.set]{fullShare} fd)
        ∗ (offs.view.loc c ↦[offs.view.set]{qo} fo) ∗ Batch EC c (.dma sem) ι N D i u)
      ⊢ iprop((Batch EC c (.dma sem) ι N D (i + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcred⟩⟩ Hk
  ihave HI := (Entails.of_eq (bigSep_pending_add i _ hi (fun t => count EC (γ t) 0))) $$ HI
  icases HI with ⟨Hnow, HI⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf (src.view.set) fs ho q)) $$ Hs
  iapply (wp_enqueueIndirectDma 𝒱 c bd Set.univ (qo := qo) (fo := fo) (rd := rd) ι _ hA hrd hsum) $$ [Hd Ho Hs Hnow]
  · have hrow : ∀ j, iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ (nth i _ hi j)) 0))
        ⊢ iprop(S.heldEntry qo fo j ∗ (S.heldEntry qo fo j -∗ rowRes c (rd j))) := fun j => by
      iintro ⟨#Hinv, ⟨⟨Hr, He⟩, Hsq⟩, Hγ⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd
            (rowPayload c src hg offs hn fs fo hin j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (g := (c, SemLoc.dma sem)) (N := N) (D := D) (γ := γ) (γ₀ := γ₀) (ι := κ) (nth i _ hi j) (hD j)
        rw [← hN j] at hcu ⊢
        iapply hcu
        isplitr; · iexact Hinv
        iexact Hγ
    unfold Stream.res
    ihave H := bigSep_sep_in _ _ _ $$ [Hd Ho]; · isplitl [Hd] <;> iassumption
    ihave H := bigSep_sep_in _ _ _ $$ [H Hs]; · isplitl [H] <;> iassumption
    ihave H := bigSep_sep_in _ _ _ $$ [H Hnow]; · isplitl [H] <;> iassumption
    iapply (bigSep_mono_pers Finset.univ _ _ _ fun j _ => hrow j)
    isplitr; · iexact Hinv
    iexact H
  · iintro Hcred'
    iapply Hk
    iexists γ, γ₀, κ
    isplitr; · iexact Hinv
    isplitl [HI]; · iexact HI
    isplitl [H0]; · iexact H0
    rw [show (i + s.size hg.axis') * N - u = (i * N - u) + s.size hg.axis' * N by rw [Nat.add_mul]; omega, ← tallyAt_add]
    icombine Hcred Hcred' as H
    iexact H

end Rule

end Cert.Proof.GatherBatch
-- ==== Proof.FirstHit.lean ====
/-
  The least of the numbers 0, …, n−1 that a test picks out, computed as the signed minimum over all of them of "the number if it
  is picked, 4096 if not".
-/
module

public import Idealize.ShloMosaic.Lib.WordCmp
public import Idealize.ShloMosaic.PureOps.Reduce

@[expose] public section

namespace Cert.Proof

open Idealize.ShloMosaic

/-- The signed minimum is the minimum of the signed readings. -/
theorem toInt_minsi (a b : BitVec 32) : (IntOp.minsi a b).toInt = min a.toInt b.toInt := by
  unfold IntOp.minsi; rw [BitVec.slt]; by_cases h : a.toInt < b.toInt
  · simp [h, Int.le_of_lt h]
  · simp [h, not_lt.1 h]

theorem toInt_small (n : ℕ) (h : n ≤ 4096) : (BitVec.ofNat 32 n).toInt = n := by
  rw [BitVec.toInt_eq_toNat_of_lt (by rw [BitVec.toNat_ofNat]; omega), BitVec.toNat_ofNat, Nat.mod_eq_of_lt (by omega)]

/-- Among at most 4096 numbers, at least one: the signed minimum is the first number picked, or 4096 if none is. -/
theorem fold_minsi_first {n : ℕ} (h0 : 0 < n) (hn : n ≤ 4096) (p : Fin n → BitVec 1) :
    (∃ k : Fin n, p k = 1#1 ∧ (∀ k', p k' = 1#1 → k ≤ k')
      ∧ Finset.univ.fold IntOp.minsi 2147483647#32 (fun k => Scalar.select (p k) (BitVec.ofNat 32 k.val) 4096#32) = BitVec.ofNat 32 k.val)
    ∨ ((∀ k, p k ≠ 1#1)
      ∧ Finset.univ.fold IntOp.minsi 2147483647#32 (fun k => Scalar.select (p k) (BitVec.ofNat 32 k.val) 4096#32) = 4096#32) := by
  set f : Fin n → BitVec 32 := fun k => Scalar.select (p k) (BitVec.ofNat 32 k.val) 4096#32 with hf
  have hom : (Finset.univ.fold IntOp.minsi 2147483647#32 f).toInt = Finset.univ.fold min (2147483647#32).toInt fun k => (f k).toInt :=
    (Finset.fold_hom (op := IntOp.minsi) (op' := min) (m := BitVec.toInt) toInt_minsi).symm
  have hpos : ∀ k, p k = 1#1 → (f k).toInt = k.val := fun k hk => by
    rw [hf]; simp only [hk, Scalar.select, if_true]; exact toInt_small _ (by omega)
  have hneg : ∀ k, p k ≠ 1#1 → (f k).toInt = 4096 := fun k hk => by
    show (if p k = 1#1 then BitVec.ofNat 32 k.val else 4096#32).toInt = 4096
    rw [if_neg hk]; decide
  have hbig : (2147483647#32).toInt = 2147483647 := by decide
  by_cases h : ∃ k, p k = 1#1
  · classical
    have hne : (Finset.univ.filter fun k => p k = 1#1).Nonempty := by obtain ⟨k, hk⟩ := h; exact ⟨k, by simp [hk]⟩
    obtain ⟨k, hk, hmin⟩ := Finset.exists_min_image _ id hne
    have hk' : p k = 1#1 := by simpa using hk
    refine .inl ⟨k, hk', fun k' h' => hmin k' (by simp [h']), BitVec.eq_of_toInt_eq ?_⟩
    rw [hom, toInt_small k.val (by have := k.isLt; omega), hbig]
    refine le_antisymm (Finset.fold_min_le _ |>.2 (.inr ⟨k, Finset.mem_univ _, (hpos k hk').le⟩)) (Finset.le_fold_min _ |>.2 ⟨?_, fun k' _ => ?_⟩)
    · have := k.isLt; omega
    · by_cases h' : p k' = 1#1
      · rw [hpos _ h']; exact_mod_cast hmin k' (by simp [h'])
      · rw [hneg _ h']; have := k.isLt; omega
  · have h' : ∀ k, p k ≠ 1#1 := fun k hk => h ⟨k, hk⟩
    refine .inr ⟨h', BitVec.eq_of_toInt_eq ?_⟩
    rw [hom, show (4096#32).toInt = 4096 by decide, hbig]
    refine le_antisymm (Finset.fold_min_le _ |>.2 (.inr ⟨⟨0, h0⟩, Finset.mem_univ _, (hneg _ (h' _)).le⟩)) (Finset.le_fold_min _ |>.2 ⟨?_, fun k' _ => ?_⟩)
    · omega
    · rw [hneg _ (h' _)]

/-- Either way it is a number up to 4096. -/
theorem fold_minsi_le {n : ℕ} (h0 : 0 < n) (hn : n ≤ 4096) (p : Fin n → BitVec 1) :
    (Finset.univ.fold IntOp.minsi 2147483647#32 (fun k => Scalar.select (p k) (BitVec.ofNat 32 k.val) 4096#32)).toNat ≤ 4096 := by
  rcases fold_minsi_first h0 hn p with ⟨k, -, -, e⟩ | ⟨-, e⟩
  · rw [e, BitVec.toNat_ofNat]; have := k.isLt; omega
  · rw [e]; decide

end Cert.Proof

end
-- ==== Proof.KernelIdeal.Setup.lean ====
/-
  The launch of the gather over the SparseCores, as the launch theorem sees it: the program's parts by name, the ghost
  state, the three arrays the call takes, and what the call's handshakes carry. Tile `(c, s)` is worker `2 s + c`; worker
  `w` reads row `w` of the row numbers and the whole table, and writes rows `1024 w … 1024 w + 1023` of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.GatherBatch
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's parts -/

abbrev ΛP : Labels := Pipeline.Sig Λ₀ (Fin 1) fun p => (pcfgs (F := F) p).Adm
/-- The SparseCore call. -/
abbrev K : SparseCore.Cfg τ sig (ΛP (F := F)) 1 := sc (F := F)
/-- The body table under the call's: the kernels' and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are four different ones, none of them scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UB : Type := UR sig nD τ
abbrev UU : Type := UH × (UB × Counters)

local notation "𝕄" => MT nD τ sig (HIx 1) (Elt F) ℕ UU ℕ

/-- The handshakes' component. -/
abbrev EH : Emb UH (MT nD τ sig (HIx 1) (Elt F) ℕ UU ℕ) := embL
/-- The TensorCore pipeline's component. -/
def EP : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EP_landsIn : (EP : Emb UB 𝕄).LandsIn (upEmb : UEmb _ 𝕄) := by unfold EP; infer_instance

/-! ## The arrays of the SparseCore call -/

/-- The table of rows, the row numbers and the gathered rows. -/
abbrev tLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

abbrev tV : Memref sig .scVector .hbm S32776x16 .f32 := Memref.whole main_v9_scv
abbrev iV : Memref sig .scVector .hbm S32x8x128 .i32 := Memref.whole main_v10_scv
abbrev oV : Memref sig .scVector .hbm S32768x16 .f32 := Memref.whole main_v11_scv
abbrev sV : Memref sig .scVector .vmem S8x128 .i32 := Memref.whole cc1_scratch0
abbrev rV : Memref sig .scVector .vmem S1024x16 .f32 := Memref.whole cc1_scratch1

theorem idiv : 32 ∣ S32x8x128.size 0 := ⟨1, rfl⟩
theorem odiv : 32 ∣ S32768x16.size 0 := ⟨1024, rfl⟩
/-- Worker `w`'s row of the row numbers, and its rows of the result. -/
abbrev irow (w : Fin 32) : Rect S32x8x128 := Rect.part (s := S32x8x128) (a₀ := 0) idiv w
abbrev orow (w : Fin 32) : Rect S32768x16 := Rect.part (s := S32768x16) (a₀ := 0) odiv w
abbrev iRowSet (w : Fin 32) : Finset S32x8x128.Idx := ((iV).view.slice (irow w)).set
abbrev oRowSet (w : Fin 32) : Finset S32768x16.Idx := ((oV).view.slice (orow w)).set

/-- Tile `s` of SparseCore `c` is worker `2 s + c`. -/
def wid (c : Fin 2) (s : Fin 16) : Fin 32 := ⟨s.val * 2 + c.val, by omega⟩

/-- SparseCore `c`'s share of the table, and tile `s`'s piece of it. -/
def coreShare (c : Fin 2) : PosShare TreeShare := pieceOf fullShare 2 (by decide) c
def tileShare (c : Fin 2) (s : Fin 16) : PosShare TreeShare := pieceOf (coreShare c) 16 (by decide) s

/-! ## What the call computes -/

/-- Where row `x 0` of the result finds its row number: worker, gather, entry. -/
def idAt (x : S32768x16.Idx) : S32x8x128.Idx
  | 0 => ⟨(x 0).val / 1024, by have := (x 0).isLt; change _ < 32768 at this; change _ < 32; omega⟩
  | 1 => ⟨(x 0).val % 1024 / 128, by change _ < 8; omega⟩
  | 2 => ⟨(x 0).val % 128, by change _ < 128; omega⟩
  | ⟨_ + 3, h⟩ => absurd h (Nat.not_lt.2 (Nat.le_add_left _ _))

/-- Column `k` of the table's row of number `n` (numbers taken modulo the table's height). -/
def tabAt (n : Nat) (k : Fin 16) : S32776x16.Idx
  | 0 => ⟨n % 32776, Nat.mod_lt _ (by decide)⟩
  | 1 => k
  | ⟨_ + 2, h⟩ => absurd h (Nat.not_lt.2 (Nat.le_add_left _ _))

/-- The gathered rows: row `r` of the result is the table's row that entry `r` of the row numbers names. -/
def gathered {α : Type} (t : S32776x16.Idx → α) (i : S32x8x128.Idx → BitVec 32) : S32768x16.Idx → α :=
  fun x => t (tabAt (i (idAt x)).toNat (x 1))

/-! ## What the handshakes carry -/

variable (tab : (d : Dev nD) → Buf (Elt F) (tLoc d)) (ids : (d : Dev nD) → Buf (Elt F) (iLoc d)) (out : (d : Dev nD) → Buf (Elt F) (oLoc d))

/-- The result of the call on device `d`. -/
abbrev res (d : Dev nD) : Buf (Elt F) (oLoc d) := gathered (tab d) (ids d)

abbrev iRowPts (d : Dev nD) (w : Fin 32) : sProp 𝕄 := iLoc d ↦[iRowSet w]{fullShare} ids d
abbrev tShPts (d : Dev nD) (q : PosShare TreeShare) : sProp 𝕄 := tLoc d ↦{q} tab d
abbrev oRowPts (d : Dev nD) (w : Fin 32) (f : Buf (Elt F) (oLoc d)) : sProp 𝕄 := oLoc d ↦[oRowSet w]{fullShare} f

/-- What tile `s` of SparseCore `c` takes or brings back: its row numbers, its piece of the table, its rows of the
    result at contents `f`. -/
abbrev tilePts (d : Dev nD) (c : Fin 2) (s : Fin 16) (f : Buf (Elt F) (oLoc d)) : sProp 𝕄 :=
  iprop(iRowPts ids d (wid c s) ∗ tShPts tab d (tileShare c s) ∗ oRowPts d (wid c s) f)

/-- What SparseCore `c` takes or brings back: its tiles' row numbers and rows of the result, and its share of the table. -/
abbrev corePts (d : Dev nD) (c : Fin 2) (f : Buf (Elt F) (oLoc d)) : sProp 𝕄 :=
  iprop((bigSep Finset.univ fun s : Fin 16 => iRowPts ids d (wid c s)) ∗ tShPts tab d (coreShare c)
    ∗ bigSep Finset.univ fun s : Fin 16 => oRowPts d (wid c s) f)

/-- The call takes the result at its old contents and brings it back gathered. -/
def P : (K (F := F)).Pay (nD := nD) (Val := Elt F) (Name := ℕ) (U := UU) where
  st := fun q d c => match q with | 0 => corePts tab ids d (Fin.cast nCore_zero c) (out d)
  dn := fun q d c => match q with | 0 => corePts tab ids d (Fin.cast nCore_zero c) (res tab ids d)
  go := fun q d c i => match q with | 0 => tilePts tab ids d (Fin.cast nCore_zero c) (Fin.cast nSub_zero i) (out d)
  td := fun q d c i => match q with | 0 => tilePts tab ids d (Fin.cast nCore_zero c) (Fin.cast nSub_zero i) (res tab ids d)
  x := fun _ _ => iprop(emp)

instance P_storable : (P (F := F) tab ids out).IsStorable where
  st q d c := match q with | 0 => (inferInstance : BI.Storable (upEmb : UEmb _ 𝕄) (corePts tab ids d (Fin.cast nCore_zero c) (out d)))
  dn q d c := match q with | 0 => (inferInstance : BI.Storable (upEmb : UEmb _ 𝕄) (corePts tab ids d (Fin.cast nCore_zero c) (res tab ids d)))
  go q d c i := match q with
    | 0 => (inferInstance : BI.Storable (upEmb : UEmb _ 𝕄) (tilePts tab ids d (Fin.cast nCore_zero c) (Fin.cast nSub_zero i) (out d)))
  td q d c i := match q with
    | 0 => (inferInstance : BI.Storable (upEmb : UEmb _ 𝕄) (tilePts tab ids d (Fin.cast nCore_zero c) (Fin.cast nSub_zero i) (res tab ids d)))

/-! ## The arrays split over the workers -/

theorem iRowSet_eq (w : Fin 32) : iRowSet w = (irow w).set := by
  show ((View.whole (main_v10_scv : Ref sig .scVector)).slice (irow w)).set = _
  rw [View.set_slice]; exact Finset.map_refl
theorem oRowSet_eq (w : Fin 32) : oRowSet w = (orow w).set := by
  show ((View.whole (main_v11_scv : Ref sig .scVector)).slice (orow w)).set = _
  rw [View.set_slice]; exact Finset.map_refl

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun a _ b _ h => by
      rw [iRowSet_eq, iRowSet_eq]; exact Rect.part_disjoint idiv h,
    (Finset.biUnion_congr rfl fun w _ => iRowSet_eq w).trans (Rect.biUnion_part idiv)]
theorem oPts_rows (d : Dev nD) (f : Buf (Elt F) (oLoc d)) :
    (oLoc d ↦{fullShare} f : sProp 𝕄) = bigSep Finset.univ fun w : Fin 32 => oRowPts d w f := by
  rw [← pointsTo_biUnion Finset.univ (ℓ := oLoc d) oRowSet fun a _ b _ h => by
      rw [oRowSet_eq, oRowSet_eq]; exact Rect.part_disjoint odiv h,
    (Finset.biUnion_congr rfl fun w _ => oRowSet_eq w).trans (Rect.biUnion_part odiv)]

/-- Workers by SparseCore and tile. -/
def widEquiv : Fin 2 × Fin 16 ≃ Fin 32 where
  toFun p := wid p.1 p.2
  invFun w := (⟨w.val % 2, by omega⟩, ⟨w.val / 2, by omega⟩)
  left_inv := by rintro ⟨c, s⟩; exact Prod.ext (Fin.ext (by change (s.val * 2 + c.val) % 2 = c.val; omega)) (Fin.ext (by change (s.val * 2 + c.val) / 2 = s.val; omega))
  right_inv w := Fin.ext (by change w.val / 2 * 2 + w.val % 2 = w.val; omega)

theorem bigSep_wid {M : Type} [URA M] (Φ : Fin 32 → sProp M) :
    bigSep Finset.univ Φ = bigSep Finset.univ fun c : Fin 2 => bigSep Finset.univ fun s : Fin 16 => Φ (wid c s) := by
  rw [bigSep_univ_equiv widEquiv, bigSep_univ_prod]; rfl

/-- The three arrays whole are what the two SparseCores take. -/
theorem corePts_all (d : Dev nD) (f : Buf (Elt F) (oLoc d)) :
    (bigSep Finset.univ fun c : Fin 2 => corePts tab ids d c f)
      = (iprop((iLoc d ↦{fullShare} ids d) ∗ (tLoc d ↦{fullShare} tab d) ∗ (oLoc d ↦{fullShare} f)) : sProp 𝕄) := by
  unfold corePts
  rw [bigSep_sep', bigSep_sep', iPts_rows, oPts_rows, bigSep_wid, bigSep_wid,
    pointsTo_piecesOf Finset.univ (tab d) (o := 2) (by decide) fullShare]
  rfl

/-- What SparseCore `c` takes is what its tiles take. -/
theorem tilePts_all (d : Dev nD) (c : Fin 2) (f : Buf (Elt F) (oLoc d)) :
    (bigSep Finset.univ fun s : Fin 16 => tilePts tab ids d c s f) = (corePts tab ids d c f : sProp 𝕄) := by
  unfold tilePts corePts tShPts
  rw [bigSep_sep', bigSep_sep', pointsTo_piecesOf Finset.univ (tab d) (o := 16) (by decide) (coreShare c)]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands divide among its tiles, and what the tiles bring back makes up its results. -/
theorem vecSplit : (K (F := F)).VecSplit' (P tab ids out) 0 := by
  intro d c
  show corePts tab ids d (Fin.cast nCore_zero c) (out d) ⊢ |={Set.univ}=> iprop(
      (bigSep Finset.univ fun i : Fin ((K (F := F)).nSub 0) => tilePts tab ids d (Fin.cast nCore_zero c) (Fin.cast nSub_zero i) (out d))
      ∗ ((bigSep Finset.univ fun i : Fin ((K (F := F)).nSub 0) => tilePts tab ids d (Fin.cast nCore_zero c) (Fin.cast nSub_zero i) (res tab ids d))
          -∗ corePts tab ids d (Fin.cast nCore_zero c) (res tab ids d)))
  rw [bigSep_tiles (F := F) (fun i => tilePts tab ids d (Fin.cast nCore_zero c) i (out d)),
    bigSep_tiles (F := F) (fun i => tilePts tab ids d (Fin.cast nCore_zero c) i (res tab ids d)), tilePts_all, tilePts_all]
  iintro H; imodintro
  isplitl [H]; · iexact H
  iintro H; iexact H

end Cert.Proof.KernelIdeal

end
-- ==== Proof.KernelIdeal.TileProg.lean ====
/-
  One tile's program, told again as: fetch the row numbers, issue eight indirect gathers of 128 rows each on one
  semaphore, wait for the eight, write the rows out.
-/
module

public import proofs.«01_k».proof.Proof.KernelIdeal.Setup

@[expose] public section

noncomputable section

namespace Cert.Proof.KernelIdeal

open Cert.KernelIdeal Cert.KernelIdeal.Gen

open Idealize.SL Idealize.SL.Sem
open Idealize.ShloMosaic
open Idealize.ShloMosaic.SparseCore (S V T)

variable {F : FTy → Type} [FloatOps F]

/-- SparseCore and tile of the grid's point `L`. -/
abbrev cV (L : grid1.Coords) : Fin τ.nSC := (L 0).castLE hcore1
abbrev jV (L : grid1.Coords) : Fin τ.nSub := (L 1).castLE hsub1

/-- A tile's programs. -/
abbrev TProg (F : FTy → Type) (L : grid1.Coords) : Type 1 := Prog (TpuEff nD τ sig (Elt F) Λ₀ (.scVector (cV L) (jV L))) PUnit

theorem inbList (j : Fin 8) : ∀ a : Fin S8x128.rank, (![j.val, 0] : Fin 2 → Nat) a + S1x128.size a ≤ S8x128.size a := by
  have := j.isLt
  intro a
  match a with
  | 0 => change j.val + 1 ≤ 8; omega
  | 1 => exact Nat.le_refl _
theorem inbRows (j : Fin 8) : ∀ a : Fin S1024x16.rank, (![128 * j.val, 0] : Fin 2 → Nat) a + S128x16.size a ≤ S1024x16.size a := by
  have := j.isLt
  intro a
  match a with
  | 0 => change 128 * j.val + 128 ≤ 1024; omega
  | 1 => exact Nat.le_refl _

/-- The table as a gather's source, gather `j`'s row numbers, and the rows gather `j` fills. -/
abbrev tAll : Memref sig .scVector .hbm S32776x16 .f32 :=
  (tV).slice (Rect.unit (s := S32776x16) ![0, 0] S32776x16.size inb_S32776x16_S32776x16_0_0) (fun _ => rfl)
abbrev lst (j : Fin 8) : Memref sig .scVector .vmem S128 .i32 :=
  ((sV).slice (Rect.unit (s := S8x128) ![j.val, 0] S1x128.size (inbList j)) (fun _ => rfl)).squeeze S128 squeezes_S1x128_S128
abbrev rws (j : Fin 8) : Memref sig .scVector .vmem S128x16 .f32 :=
  (rV).slice (Rect.unit (s := S1024x16) ![128 * j.val, 0] S128x16.size (inbRows j)) (fun _ => rfl)

/-- The tile's row of the row numbers and its rows of the result, as it addresses them. -/
abbrev iRow (L : grid1.Coords) : Memref sig .scVector .hbm S8x128 .i32 :=
  ((iV).slice (Rect.unit (s := S32x8x128) (k1_off1 L) S1x8x128.size (k1_off1_inb L)) (fun _ => rfl)).squeeze S8x128 squeezes_S1x8x128_S8x128
abbrev oRow (L : grid1.Coords) : Memref sig .scVector .hbm S1024x16 .f32 :=
  (oV).slice (Rect.unit (s := S32768x16) (k1_off2 L) S1024x16.size (k1_off2_inb L)) (fun _ => rfl)

/-- Issue gather `j`. -/
def issue (L : grid1.Coords) (j : Fin 8) : TProg F L :=
  SparseCore.enqueueIndirectGather rfl tAll (rws j) gathers_S32776x16_S128x16 (lst j) rfl cc1_scratch2.sem (View.wordExact_bits rfl) rfl (Or.inl rfl)
/-- Wait for one gather's worth. -/
def await (L : grid1.Coords) (j : Fin 8) : TProg F L :=
  SparseCore.waitIndirectGather cc1_scratch2.sem tAll (rws j) (View.wordExact_bits rfl) (View.wordExact_bits rfl)

/-- Gathers `i, i + 1, …` issued, `n` of them, before `k`. -/
def issues (L : grid1.Coords) (k : TProg F L) : (n i : Nat) → i + n = 8 → TProg F L
  | 0, _, _ => k
  | n + 1, i, h => issue L ⟨i, by omega⟩ >>= fun _ => issues L k n (i + 1) (by omega)
/-- The waits for gathers `i, i + 1, …`, `n` of them, before `k`. -/
def awaits (L : grid1.Coords) (k : TProg F L) : (n i : Nat) → i + n = 8 → TProg F L
  | 0, _, _ => k
  | n + 1, i, h => await L ⟨i, by omega⟩ >>= fun _ => awaits L k n (i + 1) (by omega)

/-- Fetch the tile's row numbers, before `k`. -/
def fetch (L : grid1.Coords) (k : TProg F L) : TProg F L := do
  Prog.lift (.enqueueDma (iRow L) (.here sV) (.dma cc1_scoped0.sem) ((View.wordExact_bits rfl).reshape _ _) (Memref.isWhole_whole _).wordExact ⟨Or.inl rfl, trivial⟩)
  Prog.lift (.waitDma2 cc1_scoped0.sem (iRow L) sV ((View.wordExact_bits rfl).reshape _ _) (Memref.isWhole_whole _).wordExact)
  k

/-- Write the tile's rows out. -/
def writeOut (L : grid1.Coords) : TProg F L := do
  Prog.lift (.enqueueDma rV (.here (oRow L)) (.dma cc1_scoped1.sem) (Memref.isWhole_whole _).wordExact (View.wordExact_bits rfl) ⟨Or.inl rfl, trivial⟩)
  Prog.lift (.waitDma2 cc1_scoped1.sem rV (oRow L) (Memref.isWhole_whole _).wordExact (View.wordExact_bits rfl))
  pure ⟨⟩

/-- The tile's program is: fetch, issue eight, wait for eight, write out. -/
theorem tileProg_eq (L : grid1.Coords) :
    cc1_gather_kernel (F := F) L tV (Memref.isWhole_whole _) iV (Memref.isWhole_whole _) oV (Memref.isWhole_whole _)
        sV (Memref.isWhole_whole _) rV (Memref.isWhole_whole _) cc1_scratch2 cc1_scoped0 cc1_scoped1
      = fetch L (issues L (awaits L (writeOut L) 8 0 rfl) 8 0 rfl) := rfl

end Cert.Proof.KernelIdeal

end
-- ==== Proof.KernelIdeal.TileGeom.lean ====
/-
  Where a tile's views lie: element by element, and as parts of the buffers they slice.
-/
module

public import proofs.«01_k».proof.Proof.KernelIdeal.TileProg

@[expose] public section

noncomputable section

namespace Cert.Proof.KernelIdeal

open Cert.KernelIdeal Cert.KernelIdeal.Gen

open Idealize.SL Idealize.SL.Sem
open Idealize.ShloMosaic
open Idealize.ShloMosaic.SparseCore (S V T)

variable {F : FTy → Type}

/-! ## Indices by their coordinates -/

def at8 (j : Fin 8) (r : Fin 128) : S8x128.Idx
  | 0 => j
  | 1 => r
  | ⟨_ + 2, h⟩ => absurd h (Nat.not_lt.2 (Nat.le_add_left _ _))
def at32 (w : Fin 32) (j : Fin 8) (r : Fin 128) : S32x8x128.Idx
  | 0 => w
  | 1 => j
  | 2 => r
  | ⟨_ + 3, h⟩ => absurd h (Nat.not_lt.2 (Nat.le_add_left _ _))
def atRow (r : Fin 1024) (k : Fin 16) : S1024x16.Idx
  | 0 => r
  | 1 => k
  | ⟨_ + 2, h⟩ => absurd h (Nat.not_lt.2 (Nat.le_add_left _ _))
def atOut (r : Fin 32768) (k : Fin 16) : S32768x16.Idx
  | 0 => r
  | 1 => k
  | ⟨_ + 2, h⟩ => absurd h (Nat.not_lt.2 (Nat.le_add_left _ _))

theorem grid1_bound0 : grid1.bound 0 = 2 := rfl
theorem grid1_bound1 : grid1.bound 1 = 16 := rfl
/-- The worker at the grid's point `L`. -/
abbrev wL (L : grid1.Coords) : Fin 32 := wid (Fin.cast grid1_bound0 (L 0)) (Fin.cast grid1_bound1 (L 1))

/-- Unit-stride rectangles of equal offsets and sizes are equal. -/
theorem unit_congr {s : Shape} {off off' size size' : Fin s.rank → Nat} {inb} {inb'} (ho : off = off') (hs : size = size') :
    Rect.unit off size inb = Rect.unit off' size' inb' := by
  subst ho hs; rfl

/-! ## Element by element -/

theorem tAll_emb (x : S32776x16.Idx) : tAll.view.emb x = x := by
  funext a
  refine Fin.ext ?_
  match a with
  | 0 => show 0 + 1 * (x 0).val = (x 0).val; omega
  | 1 => show 0 + 1 * (x 1).val = (x 1).val; omega

theorem lst_emb (j : Fin 8) (x : S128.Idx) : (lst j).view.emb x = at8 j (x 0) := by
  have e : Shape.reshapeEquiv squeezes_S1x128_S128.numel_eq x
      = (fun | 0 => ⟨0, Nat.one_pos⟩ | 1 => x 0 | ⟨_ + 2, h⟩ => absurd h (Nat.not_lt.2 (Nat.le_add_left _ _)) : S1x128.Idx) := by
    refine Shape.reshapeEquiv_eq_of_rowMajor _ ?_
    rw [Shape.rowMajor_val_two, Shape.rowMajor_val_one]
    show 0 * 128 + (x 0).val = (x 0).val
    omega
  show (Rect.unit (s := S8x128) ![j.val, 0] S1x128.size (inbList j)).emb (Shape.reshapeEquiv squeezes_S1x128_S128.numel_eq x) = at8 j (x 0)
  rw [e]
  funext a
  refine Fin.ext ?_
  match a with
  | 0 => show j.val + 1 * 0 = j.val; omega
  | 1 => show 0 + 1 * (x 0).val = (x 0).val; omega

theorem rws_emb (j : Fin 8) (x : S128x16.Idx) :
    (rws j).view.emb x = atRow ⟨128 * j.val + (x 0).val, by have := (x 0).isLt; change _ < 128 at this; omega⟩ (x 1) := by
  funext a
  refine Fin.ext ?_
  match a with
  | 0 => show 128 * j.val + 1 * (x 0).val = 128 * j.val + (x 0).val; omega
  | 1 => show 0 + 1 * (x 1).val = (x 1).val; omega

theorem iRow_emb (L : grid1.Coords) (y : S8x128.Idx) : (iRow L).view.emb y = at32 (wL L) (y 0) (y 1) := by
  have e : Shape.reshapeEquiv squeezes_S1x8x128_S8x128.numel_eq y
      = (fun | 0 => ⟨0, Nat.one_pos⟩ | 1 => y 0 | 2 => y 1 | ⟨_ + 3, h⟩ => absurd h (Nat.not_lt.2 (Nat.le_add_left _ _)) : S1x8x128.Idx) := by
    refine Shape.reshapeEquiv_eq_of_rowMajor _ ?_
    rw [Shape.rowMajor_val_three, Shape.rowMajor_val_two]
    show (0 * 8 + (y 0).val) * 128 + (y 1).val = (y 0).val * 128 + (y 1).val
    omega
  show (Rect.unit (s := S32x8x128) (k1_off1 L) S1x8x128.size (k1_off1_inb L)).emb (Shape.reshapeEquiv squeezes_S1x8x128_S8x128.numel_eq y) = _
  rw [e]
  funext a
  refine Fin.ext ?_
  refine (congrArg (· + 1 * _) (congrFun (k1_off1_eq L) a)).trans ?_
  match a with
  | 0 => show 2 * (L 1).val + (L 0).val + 1 * 0 = (L 1).val * 2 + (L 0).val; omega
  | 1 => show 0 + 1 * (y 0).val = (y 0).val; omega
  | 2 => show 0 + 1 * (y 1).val = (y 1).val; omega

theorem oRow_emb (L : grid1.Coords) (y : S1024x16.Idx) :
    (oRow L).view.emb y = atOut ⟨1024 * (wL L).val + (y 0).val, by have := (y 0).isLt; change _ < 1024 at this; omega⟩ (y 1) := by
  funext a
  refine Fin.ext ?_
  show k1_off2 L a + 1 * (y a).val = _
  rw [k1_off2_eq]
  match a with
  | 0 => show 2048 * (L 1).val + 1024 * (L 0).val + 1 * (y 0).val = 1024 * ((L 1).val * 2 + (L 0).val) + (y 0).val; omega
  | 1 => show 0 + 1 * (y 1).val = (y 1).val; omega

/-! ## As parts -/

theorem ldiv : 8 ∣ S8x128.size 0 := ⟨1, rfl⟩
theorem rdiv : 8 ∣ S1024x16.size 0 := ⟨128, rfl⟩

theorem set_lst (j : Fin 8) : (lst j).view.set = (Rect.part (s := S8x128) (a₀ := 0) ldiv j).set := by
  show (((sV).view.slice (Rect.unit (s := S8x128) ![j.val, 0] S1x128.size (inbList j))).reshape S128 squeezes_S1x128_S128.numel_eq).set = _
  rw [View.set_reshape]
  show ((View.whole (cc1_scratch0 : Ref sig .scVector)).slice _).set = _
  rw [View.set_slice]
  refine Finset.map_refl.trans ?_
  congr 1
  unfold Rect.part Rect.block
  refine congrArg Rect.toLoadRect (unit_congr ?_ ?_) <;> funext a
  · match a with
    | 0 => simp [Shape.partIx, Shape.partSize]
    | 1 => simp [Shape.partIx, Shape.partSize]
  · match a with
    | 0 => simp [Shape.partSize]
    | 1 => simp [Shape.partSize]

theorem set_rws (j : Fin 8) : (rws j).view.set = (Rect.part (s := S1024x16) (a₀ := 0) rdiv j).set := by
  show ((View.whole (cc1_scratch1 : Ref sig .scVector)).slice (Rect.unit (s := S1024x16) ![128 * j.val, 0] S128x16.size (inbRows j))).set = _
  rw [View.set_slice]
  refine Finset.map_refl.trans ?_
  congr 1
  unfold Rect.part Rect.block
  refine congrArg Rect.toLoadRect (unit_congr ?_ ?_) <;> funext a
  · match a with
    | 0 => simp [Shape.partIx, Shape.partSize]; omega
    | 1 => simp [Shape.partIx, Shape.partSize]
  · match a with
    | 0 => simp [Shape.partSize]
    | 1 => simp [Shape.partSize]

theorem irow_eq (L : grid1.Coords) : Rect.unit (s := S32x8x128) (k1_off1 L) S1x8x128.size (k1_off1_inb L) = irow (wL L) := by
  unfold irow Rect.part Rect.block
  refine unit_congr ?_ ?_ <;> funext a
  · rw [k1_off1_eq]
    match a with
    | 0 => simp [Shape.partIx, Shape.partSize, wid]; change 2 * (L 1).val + (L 0).val = (L 1).val * 2 + (L 0).val; omega
    | 1 => simp [Shape.partIx, Shape.partSize]
    | 2 => simp [Shape.partIx, Shape.partSize]
  · match a with
    | 0 => simp [Shape.partSize]
    | 1 => simp [Shape.partSize]
    | 2 => simp [Shape.partSize]

theorem orow_eq (L : grid1.Coords) : Rect.unit (s := S32768x16) (k1_off2 L) S1024x16.size (k1_off2_inb L) = orow (wL L) := by
  unfold orow Rect.part Rect.block
  refine unit_congr ?_ ?_ <;> funext a
  · rw [k1_off2_eq]
    match a with
    | 0 => simp [Shape.partIx, Shape.partSize, wid]; change 2048 * (L 1).val + 1024 * (L 0).val = ((L 1).val * 2 + (L 0).val) * 1024; omega
    | 1 => simp [Shape.partIx, Shape.partSize]
  · match a with
    | 0 => simp [Shape.partSize]
    | 1 => simp [Shape.partSize]

theorem set_iRow (L : grid1.Coords) : (iRow L).view.set = iRowSet (wL L) := by
  show (((iV).view.slice (Rect.unit (s := S32x8x128) (k1_off1 L) S1x8x128.size (k1_off1_inb L))).reshape S8x128 squeezes_S1x8x128_S8x128.numel_eq).set
    = ((iV).view.slice (irow (wL L))).set
  rw [View.set_reshape]
  exact irow_eq L ▸ rfl

theorem set_oRow (L : grid1.Coords) : (oRow L).view.set = oRowSet (wL L) := by
  show ((oV).view.slice (Rect.unit (s := S32768x16) (k1_off2 L) S1024x16.size (k1_off2_inb L))).set = ((oV).view.slice (orow (wL L))).set
  exact orow_eq L ▸ rfl

/-! ## What the views hold -/

section Values

variable (tab : (d : Dev nD) → Buf (Elt F) (tLoc d)) (ids : (d : Dev nD) → Buf (Elt F) (iLoc d)) (d : Dev nD) (L : grid1.Coords)

/-- The tile's row numbers. -/
def listOf : S8x128.Idx → Elt F .i32 := fun y => ids d (at32 (wL L) (y 0) (y 1))
/-- The tile's rows. -/
def rowsOf : S1024x16.Idx → Elt F .f32 := fun y =>
  tab d (tabAt (ids d (at32 (wL L) ⟨(y 0).val / 128, by have := (y 0).isLt; change _ < 1024 at this; change _ < 8; omega⟩
    ⟨(y 0).val % 128, by change _ < 128; omega⟩)).toNat (y 1))

/-- What the fetch brings is the tile's row numbers. -/
theorem read_iRow : (iRow L).view.read (Elt F) (ids d) = listOf ids d L := by
  funext y
  refine ((View.read_apply _ _).trans (cast_eq _ _)).trans ?_
  rw [iRow_emb]; rfl

/-- What gather `j` reads as its list. -/
theorem read_lst (j : Fin 8) (x : S128.Idx) : (lst j).view.read (Elt F) (listOf ids d L) x = ids d (at32 (wL L) j (x 0)) := by
  refine ((View.read_apply _ _).trans (cast_eq _ _)).trans ?_
  rw [lst_emb]; rfl

theorem read_tAll (x : S32776x16.Idx) : tAll.view.read (Elt F) (tab d) x = tab d x := by
  refine ((View.read_apply _ _).trans (cast_eq _ _)).trans ?_
  rw [tAll_emb]

/-- Every entry of a list is a row of the table when every row number is. -/
theorem lst_lt (h : ∀ x, (ids d x).toNat < 32776) (j : Fin 8) (x : S128.Idx) :
    ((lst j).view.read (Elt F) (listOf ids d L) x).toNat < S32776x16.size gathers_S32776x16_S128x16.axis := by
  rw [read_lst]; exact h _

/-- Gather `j` leaves the tile's rows in the rows it fills. -/
theorem write_rws (h : ∀ x, (ids d x).toNat < 32776) (j : Fin 8) (fr : S1024x16.Idx → Elt F .f32) :
    ∀ y ∈ (rws j).view.set,
      ((rws j).view.write (Elt F) fr (SparseCore.gatherPayload gathers_S32776x16_S128x16 (tAll.view.read (Elt F) (tab d))
        (SparseCore.rows ((lst j).view.read (Elt F) (listOf ids d L)) rfl (lst_lt ids d L h j))) Finset.univ) y = rowsOf tab ids d L y := by
  intro y hy
  obtain ⟨x, -, rfl⟩ := Finset.mem_map.mp hy
  rw [View.write_emb_of_mem _ _ (Finset.mem_univ x)]
  refine (cast_eq _ _).trans ?_
  unfold SparseCore.gatherPayload
  rw [read_tAll]
  unfold rowsOf
  congr 1
  have hx0 := (x 0).isLt
  change _ < 128 at hx0
  have he : ∀ r : Fin S128.numel, ((S128.rowMajor.symm r) 0).val = r.val := fun r =>
    (Shape.rowMajor_val_one (S128.rowMajor.symm r)).symm.trans (congrArg Fin.val (Equiv.apply_symm_apply _ r))
  funext b
  refine Fin.ext ?_
  match b with
  | 0 =>
    refine (congrArg Fin.val (Shape.Gathers.idx_axis gathers_S32776x16_S128x16 _ x)).trans ?_
    show ((lst j).view.read (Elt F) (listOf ids d L) (S128.rowMajor.symm ⟨(x 0).val, hx0⟩)).toNat = _
    rw [read_lst, show (S128.rowMajor.symm ⟨(x 0).val, hx0⟩) 0 = x 0 from Fin.ext (he ⟨(x 0).val, hx0⟩), rws_emb]
    have e1 : (⟨(128 * j.val + (x 0).val) / 128, by omega⟩ : Fin 8) = j := Fin.ext (by change (128 * j.val + (x 0).val) / 128 = j.val; omega)
    have e2 : (⟨(128 * j.val + (x 0).val) % 128, by omega⟩ : Fin 128) = x 0 := Fin.ext (by change (128 * j.val + (x 0).val) % 128 = (x 0).val; omega)
    show _ = (ids d (at32 (wL L) ⟨(128 * j.val + (x 0).val) / 128, _⟩ ⟨(128 * j.val + (x 0).val) % 128, _⟩)).toNat % 32776
    rw [e1, e2]
    exact (Nat.mod_eq_of_lt (h _)).symm
  | 1 =>
    refine (Shape.Gathers.idx_of_ne gathers_S32776x16_S128x16 _ x 1 (by decide)).trans ?_
    rw [rws_emb]; rfl

/-- The write-out leaves the call's result in the tile's rows of it. -/
theorem write_oRow (fo : Buf (Elt F) (oLoc d)) :
    ∀ y ∈ (oRow L).view.set, ((oRow L).view.write (Elt F) fo (rowsOf tab ids d L) Finset.univ) y = res tab ids d y := by
  intro y hy
  obtain ⟨x, -, rfl⟩ := Finset.mem_map.mp hy
  rw [View.write_emb_of_mem _ _ (Finset.mem_univ x)]
  refine (cast_eq _ _).trans ?_
  rw [oRow_emb]
  unfold rowsOf res gathered
  have hx0 := (x 0).isLt
  change _ < 1024 at hx0
  congr 2
  congr 2
  funext a
  refine Fin.ext ?_
  match a with
  | 0 => show (wL L).val = (1024 * (wL L).val + (x 0).val) / 1024; omega
  | 1 => show (x 0).val / 128 = (1024 * (wL L).val + (x 0).val) % 1024 / 128; omega
  | 2 => show (x 0).val % 128 = (1024 * (wL L).val + (x 0).val) % 128; omega

end Values

end Cert.Proof.KernelIdeal

end
-- ==== Proof.KernelIdeal.Tile.lean ====
/-
  One tile's run: the fetch leaves the tile's row numbers in its list buffer, the eight gathers fill the eight groups of
  128 rows of its row buffer while all are outstanding on one semaphore, the eight waits take them back, and the
  write-out leaves the gathered rows in the tile's rows of the result.
-/
module

public import proofs.«01_k».proof.Proof.KernelIdeal.TileGeom

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownRefs ownCells mem_ownRefs mem_ownCells)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.GatherBatch

variable {F : FTy → Type} [FloatOps F]

local notation "𝕄" => MT nD τ sig (HIx 1) (Elt F) ℕ UU ℕ

section Tile

variable (tab : (d : Dev nD) → Buf (Elt F) (tLoc d)) (ids : (d : Dev nD) → Buf (Elt F) (iLoc d)) (d : Dev nD) (L : grid1.Coords)

/-- The tile's thread. -/
abbrev vT : Thread nD τ := V d (cV L) (jV L)

/-! ## The gathers -/

section Gathers

variable (hlt : ∀ x, (ids d x).toNat < 32776) (q : PosShare TreeShare) (fr : S1024x16.Idx → Elt F .f32)

/-- Gather `j`'s piece of the tile's share of the table. -/
def qPiece (q : PosShare TreeShare) (j : Fin 8) : PosShare TreeShare := pieceOf q 8 (by decide) j

/-- What gather `j` is handed: its piece of the table, the rows it fills, its list. -/
def gIn (j : Fin 8) : sProp 𝕄 :=
  iprop((tAll.view.loc (vT d L) ↦[tAll.view.set]{qPiece q j} tab d) ∗ ((rws j).view.loc (vT d L) ↦[(rws j).view.set]{fullShare} fr)
    ∗ ((lst j).view.loc (vT d L) ↦[(lst j).view.set]{fullShare} listOf ids d L))

theorem gIn_eq (j : Fin 8) : gIn tab ids d L q fr j
    = (iprop((tAll.view.loc (vT d L) ↦[tAll.view.set]{qPiece q j} tab d) ∗ ((rws j).view.loc (vT d L) ↦[(rws j).view.set]{fullShare} fr)
      ∗ ((lst j).view.loc (vT d L) ↦[(lst j).view.set]{fullShare} listOf ids d L)) : sProp 𝕄) := rfl

/-- What row `r` of gather `j` delivers. -/
def gRow (j : Fin 8) (r : Fin 128) : sProp 𝕄 :=
  rowDelivery (vT d L) tAll (rws j) gathers_S32776x16_S128x16 (lst j) rfl (qPiece q j) fullShare (tab d) fr (listOf ids d L)
    (by decide) (lst_lt ids d L hlt j) r

/-- What the batch's transfer `t` delivers: row `t % 128` of gather `t / 128`. -/
def gDel (t : Fin (8 * 128)) : sProp 𝕄 :=
  gRow tab ids d L hlt q fr (finProdFinEquiv.symm t).1 (finProdFinEquiv.symm t).2

theorem gDel_pair (j : Fin 8) (r : Fin 128) : gDel tab ids d L hlt q fr (finProdFinEquiv (j, r)) = gRow tab ids d L hlt q fr j r := by
  unfold gDel; rw [Equiv.symm_apply_apply]

instance gDel_storable (t : Fin (8 * 128)) : Storable (upEmb : UEmb _ 𝕄) (gDel tab ids d L hlt q fr t) := by
  unfold gDel gRow
  exact rowDelivery_storable (vT d L) tAll (rws (finProdFinEquiv.symm t).1) gathers_S32776x16_S128x16 (lst (finProdFinEquiv.symm t).1) rfl
    (qPiece q (finProdFinEquiv.symm t).1) fullShare (tab d) fr (listOf ids d L) (by decide) (lst_lt ids d L hlt (finProdFinEquiv.symm t).1)
    (finProdFinEquiv.symm t).2

/-- All the deliveries are, gather by gather, its piece of the table, its rows filled, its list. -/
theorem gDel_join :
    bigSep Finset.univ (gDel tab ids d L hlt q fr)
      ⊢ (bigSep Finset.univ fun j => gIn tab ids d L q (rowsOf tab ids d L) j : sProp 𝕄) := by
  rw [bigSep_univ_equiv (finProdFinEquiv (m := 8) (n := 128)), bigSep_univ_prod]
  refine bigSep_mono fun j _ => ?_
  have e : (bigSep Finset.univ fun r : Fin 128 => gDel tab ids d L hlt q fr (finProdFinEquiv (j, r)))
      = bigSep Finset.univ fun r : Fin 128 => gRow tab ids d L hlt q fr j r :=
    bigSep_congr fun r _ => gDel_pair tab ids d L hlt q fr j r
  refine (Entails.of_eq e).trans ?_
  refine (rowDelivery_join (vT d L) tAll (rws j) gathers_S32776x16_S128x16 (lst j) rfl (qPiece q j) fullShare (tab d) fr (listOf ids d L)
    (by decide) (lst_lt ids d L hlt j)).trans ?_
  unfold gIn
  iintro ⟨Hr, Ht, Hl⟩
  isplitl [Ht]; · iexact Ht
  isplitl [Hr]
  · iapply (Entails.of_eq (pointsTo_congr (write_rws tab ids d L hlt j fr))) $$ Hr
  · iexact Hl

theorem row_credit (j : Fin 8) (r : Fin (S128x16.size gathers_S32776x16_S128x16.axis')) :
    ((rws j).slice (S128x16.rowRect gathers_S32776x16_S128x16.axis' r) (S128x16.stride_rowRect gathers_S32776x16_S128x16.axis' r)).view.dmaCredit = 512 := by
  revert j r; decide
theorem rws_credit (j : Fin 8) : (rws j).view.dmaCredit = 128 * 512 := by
  revert j; decide

/-- Issuing the gathers from the `i`-th on: what they are handed goes into the batch. -/
theorem wp_issues (k : TProg F L) (Q : PUnit → sProp 𝕄) : ∀ (n i : Nat) (h : i + n = 8),
    iprop((bigSep (pending (n := 8) i) fun j => gIn tab ids d L q fr j)
        ∗ Batch (countersEmb : UEmb Counters 𝕄) (vT d L) (.dma cc1_scratch2.sem) (default : HIx 1) 512 (gDel tab ids d L hlt q fr) (i * 128) 0)
      ⊢ iprop((Batch (countersEmb : UEmb Counters 𝕄) (vT d L) (.dma cc1_scratch2.sem) (default : HIx 1) 512 (gDel tab ids d L hlt q fr) (8 * 128) 0
            -∗ wp frame (wpE (defs₀ (F := F)) 𝒱₀ (vT d L) none) Set.univ k Q)
          -∗ wp frame (wpE (defs₀ (F := F)) 𝒱₀ (vT d L) none) Set.univ (issues L k n i h) Q)
  | 0, i, h => by
    obtain rfl : i = 8 := by omega
    iintro ⟨-, HB⟩ Hk
    unfold issues
    iapply Hk $$ HB
  | n + 1, i, h => by
    have hi8 : i < 8 := by omega
    iintro ⟨HG, HB⟩ Hk
    ihave HG := (Entails.of_eq (Transfers.bigSep_pending_step (fun j => gIn tab ids d L q fr j) i hi8)) $$ HG
    icases HG with ⟨HG1, HG⟩
    ihave HG1 := (Entails.of_eq (gIn_eq tab ids d L q fr ⟨i, hi8⟩)) $$ HG1
    icases HG1 with ⟨Ht, Hr, Hl⟩
    unfold issues issue
    have hi : i * 128 + S128x16.size gathers_S32776x16_S128x16.axis' ≤ 8 * 128 := by
      change i * 128 + 128 ≤ 8 * 128; omega
    iapply (wp_gather_batch (vT d L) tAll (rws ⟨i, hi8⟩) gathers_S32776x16_S128x16 (lst ⟨i, hi8⟩) rfl (qPiece q ⟨i, hi8⟩) fullShare (tab d) fr
      (listOf ids d L) (by decide) (lst_lt ids d L hlt ⟨i, hi8⟩) countersEmb 𝒱₀ none (D := gDel tab ids d L hlt q fr) (default : HIx 1) 512 (i * 128) 0
      (row_credit ⟨i, hi8⟩) hi (Nat.zero_le _)
      (fun r => by
        have e : nth (i * 128) (S128x16.size gathers_S32776x16_S128x16.axis') hi r = finProdFinEquiv ((⟨i, hi8⟩ : Fin 8), (r : Fin 128)) :=
          Fin.ext (by show i * 128 + r.val = r.val + 128 * i; omega)
        exact Entails.of_eq ((gDel_pair tab ids d L hlt q fr ⟨i, hi8⟩ r).symm.trans (congrArg _ e.symm)))) $$ [Ht Hr Hl HB]
    · isplitl [Ht]; · iexact Ht
      isplitl [Hr]; · iexact Hr
      isplitl [Hl]; · iexact Hl
      iexact HB
    iintro HB
    have h' : i + 1 + n = 8 := by omega
    iapply (wp_issues k Q n (i + 1) h') $$ [HG HB]
    · isplitl [HG]; · iexact HG
      rw [show (i + 1) * 128 = i * 128 + S128x16.size gathers_S32776x16_S128x16.axis' from Nat.succ_mul i 128]
      iexact HB
    iexact Hk

/-- Waiting for the gathers from the `i`-th on: the batch's units are consumed, a gather's worth at a time. -/
theorem wp_awaits (D : Fin (8 * 128) → sProp 𝕄) (O : CellTallies nD τ sig (HIx 1)) (W₀ : Waits sig (HIx 1)) (k : TProg F L) (Q : PUnit → sProp 𝕄) :
    ∀ (n i : Nat) (h : i + n = 8) (W : Waits sig (HIx 1)), (∀ p ∈ W, p ∈ W₀ ∨ p.2 = none) →
    iprop(Batch (countersEmb : UEmb Counters 𝕄) (vT d L) (.dma cc1_scratch2.sem) (default : HIx 1) 512 D (8 * 128) (i * (128 * 512))
        ∗ owes (vT d L) O W ∗ Transfers.MayWaits (vT d L) (default : HIx 1) O)
      ⊢ iprop((iprop(Batch (countersEmb : UEmb Counters 𝕄) (vT d L) (.dma cc1_scratch2.sem) (default : HIx 1) 512 D (8 * 128) (512 * (8 * 128))
            ∗ ∃ W, ⌜∀ p ∈ W, p ∈ W₀ ∨ p.2 = none⌝ ∗ owes (vT d L) O W)
            -∗ wp frame (wpE (defs₀ (F := F)) 𝒱₀ (vT d L) none) Set.univ k Q)
          -∗ wp frame (wpE (defs₀ (F := F)) 𝒱₀ (vT d L) none) Set.univ (awaits L k n i h) Q)
  | 0, i, h, W, hW => by
    obtain rfl : i = 8 := by omega
    iintro ⟨HB, HO, -⟩ Hk
    unfold awaits
    iapply Hk
    isplitl [HB]; · iexact HB
    iexists W
    isplitr; · ipureintro; exact hW
    iexact HO
  | n + 1, i, h, W, hW => by
    have hi8 : i < 8 := by omega
    iintro ⟨HB, HO, #Hmw⟩ Hk
    unfold awaits await
    iapply (Transfers.wp_waitBatchMulO countersEmb 𝒱₀ (vT d L) none (default : HIx 1) (N := 512) 128 (rws_credit ⟨i, hi8⟩) (D := D) (j := 8 * 128)
      (u := i * (128 * 512)) (by omega)) $$ [HB HO]
    · isplitl [HB]; · iexact HB
      isplitl [HO]; · iexact HO
      iapply (Transfers.MayWaits.elim (SemLoc.dma cc1_scratch2.sem)) $$ Hmw
    iintro ⟨HB, HO⟩
    iapply (wp_awaits D O W₀ k Q n (i + 1) (by omega) (insert (SemLoc.dma cc1_scratch2.sem, (default : HIx 1)) W) (fun p hp => by
      rcases Finset.mem_insert.mp hp with hp | hp
      · exact .inr (hp ▸ rfl)
      · exact hW p hp)) $$ [HB HO]
    · isplitl [HB]
      · rw [show (i + 1) * (128 * 512) = i * (128 * 512) + 128 * 512 by omega]; iexact HB
      isplitl [HO]; · iexact HO
      iexact Hmw
    iexact Hk

/-- What the gathers are handed, all together: the table's share, the row buffer, the list buffer. -/
theorem gIn_all :
    (bigSep Finset.univ fun j => gIn tab ids d L q fr j)
      = (iprop((tAll.view.loc (vT d L) ↦[tAll.view.set]{q} tab d) ∗ ((rV).view.loc (vT d L) ↦{fullShare} fr)
          ∗ ((sV).view.loc (vT d L) ↦{fullShare} listOf ids d L)) : sProp 𝕄) := by
  have hr : ((rV).view.loc (vT d L) ↦{fullShare} fr : sProp 𝕄)
      = bigSep Finset.univ fun j : Fin 8 => (rws j).view.loc (vT d L) ↦[(rws j).view.set]{fullShare} fr := by
    rw [show (Finset.univ : Finset (Idx ((rV).view.loc (vT d L)))) = (Finset.univ : Finset (Fin 8)).biUnion fun j => (rws j).view.set from
      ((Finset.biUnion_congr rfl fun j _ => set_rws j).trans (Rect.biUnion_part rdiv)).symm]
    exact pointsTo_biUnion Finset.univ (ℓ := (rV).view.loc (vT d L)) (fun j => (rws j).view.set) fun a _ b _ h => by
      rw [set_rws, set_rws]; exact Rect.part_disjoint rdiv h
  have hl : ((sV).view.loc (vT d L) ↦{fullShare} listOf ids d L : sProp 𝕄)
      = bigSep Finset.univ fun j : Fin 8 => (lst j).view.loc (vT d L) ↦[(lst j).view.set]{fullShare} listOf ids d L := by
    rw [show (Finset.univ : Finset (Idx ((sV).view.loc (vT d L)))) = (Finset.univ : Finset (Fin 8)).biUnion fun j => (lst j).view.set from
      ((Finset.biUnion_congr rfl fun j _ => set_lst j).trans (Rect.biUnion_part ldiv)).symm]
    exact pointsTo_biUnion Finset.univ (ℓ := (sV).view.loc (vT d L)) (fun j => (lst j).view.set) fun a _ b _ h => by
      rw [set_lst, set_lst]; exact Rect.part_disjoint ldiv h
  rw [hr, hl, pointsTo_piecesOf tAll.view.set (tab d) (o := 8) (by decide) q]
  unfold gIn
  rw [bigSep_sep', bigSep_sep']
  rfl

end Gathers

/-! ## The tile's semaphores and buffers -/

abbrev cGcell (d : Dev nD) (L : grid1.Coords) : GSem nD τ sig := (vT d L, .dma cc1_scratch2.sem)
abbrev cFcell (d : Dev nD) (L : grid1.Coords) : GSem nD τ sig := (vT d L, .dma cc1_scoped0.sem)
abbrev cWcell (d : Dev nD) (L : grid1.Coords) : GSem nD τ sig := (vT d L, .dma cc1_scoped1.sem)

/-- The tile's own semaphores are the gathers', the fetch's and the write-out's, and the rest. -/
theorem ownSems0_V :
    (ownSems0 (vT d L) : sProp 𝕄)
      = iprop(semVal (cGcell d L) 0 ∗ semVal (cFcell d L) 0 ∗ semVal (cWcell d L) 0
          ∗ bigSep ((((ownCells (vT d L)).erase (cGcell d L)).erase (cFcell d L)).erase (cWcell d L)) fun g => semVal g 0) := by
  unfold SparseCore.Cfg.ownSems0
  rw [SparseCore.bigSep_erase' ((mem_ownCells (g := cGcell d L)).mpr ⟨rfl, by
      show (SemLoc.dma cc1_scratch2.sem : SemLoc sig).isScoped .scVector = true; decide⟩),
    SparseCore.bigSep_erase' (Finset.mem_erase.mpr ⟨by simp [cGcell, cFcell]; decide, (mem_ownCells (g := cFcell d L)).mpr ⟨rfl, by
      show (SemLoc.dma cc1_scoped0.sem : SemLoc sig).isScoped .scVector = true; decide⟩⟩),
    SparseCore.bigSep_erase' (Finset.mem_erase.mpr ⟨by simp [cFcell, cWcell]; decide, Finset.mem_erase.mpr ⟨by simp [cGcell, cWcell]; decide,
      (mem_ownCells (g := cWcell d L)).mpr ⟨rfl, by show (SemLoc.dma cc1_scoped1.sem : SemLoc sig).isScoped .scVector = true; decide⟩⟩⟩)]

/-- The tile's own buffers are the list buffer and the row buffer, at some contents, and the rest. -/
theorem ownBufs_V :
    (ownBufs (vT d L) : sProp 𝕄)
      = iprop((∃ f, (vT d L).loc cc1_scratch0 ↦{fullShare} f) ∗ (∃ f, (vT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The fetch and the write-out -/

theorem wp_fetch (O : CellTallies nD τ sig (HIx 1)) (W₀ : Waits sig (HIx 1)) (fs : S8x128.Idx → Elt F .i32) (k : TProg F L) (Q : PUnit → sProp 𝕄) :
    iprop(Transfers.MayWaits (vT d L) (default : HIx 1) O ∗ iRowPts ids d (wL L) ∗ ((sV).view.loc (vT d L) ↦{fullShare} fs)
        ∗ semVal (cFcell d L) 0 ∗ owes (vT d L) O W₀)
      ⊢ iprop((iprop(iRowPts ids d (wL L) ∗ ((sV).view.loc (vT d L) ↦{fullShare} listOf ids d L) ∗ semVal (cFcell d L) 0
            ∗ ∃ W, ⌜∀ p ∈ W, p ∈ W₀ ∨ p.2 = none⌝ ∗ owes (vT d L) O W)
            -∗ wp frame (wpE (defs₀ (F := F)) 𝒱₀ (vT d L) none) Set.univ k Q)
          -∗ wp frame (wpE (defs₀ (F := F)) 𝒱₀ (vT d L) none) Set.univ (fetch L k) Q) := by
  have hi : (iRowPts ids d (wL L) : sProp 𝕄) = ((iRow L).view.loc (vT d L) ↦[(iRow L).view.set]{fullShare} ids d) := by rw [set_iRow]
  iintro ⟨#Hmw, Hi, Hs, HsemF, HO⟩ Hk
  ihave Hi := (Entails.of_eq hi) $$ Hi
  unfold fetch
  sl_exec
  iapply Hk
  isplitl [Hi]; · iapply (Entails.of_eq hi.symm) $$ Hi
  isplitl [Hs]
  · iapply (Entails.of_eq (congrArg (fun f => ((sV).view.loc (vT d L) ↦{fullShare} f : sProp 𝕄))
      ((View.write_whole_univ _ _ _).trans (read_iRow ids d L)))) $$ Hs
  isplitl [HsemF]; · iexact HsemF
  iexists _
  isplitr
  swap; · iexact HO
  ipureintro; intro p hp
  rcases Finset.mem_insert.mp hp with hp | hp
  · exact .inr (hp ▸ rfl)
  · exact .inl hp

theorem wp_writeOut (O : CellTallies nD τ sig (HIx 1)) (W₀ : Waits sig (HIx 1)) (fo : Buf (Elt F) (oLoc d)) (Q : PUnit → sProp 𝕄) :
    iprop(Transfers.MayWaits (vT d L) (default : HIx 1) O ∗ oRowPts d (wL L) fo ∗ ((rV).view.loc (vT d L) ↦{fullShare} rowsOf tab ids d L)
        ∗ semVal (cWcell d L) 0 ∗ owes (vT d L) O W₀)
      ⊢ iprop((iprop(oRowPts d (wL L) (res tab ids d) ∗ ((rV).view.loc (vT d L) ↦{fullShare} rowsOf tab ids d L) ∗ semVal (cWcell d L) 0
            ∗ ∃ W, ⌜∀ p ∈ W, p ∈ W₀ ∨ p.2 = none⌝ ∗ owes (vT d L) O W) -∗ Q ⟨⟩)
          -∗ wp frame (wpE (defs₀ (F := F)) 𝒱₀ (vT d L) none) Set.univ (writeOut L) Q) := by
  have ho : ∀ f, (oRowPts d (wL L) f : sProp 𝕄) = ((oRow L).view.loc (vT d L) ↦[(oRow L).view.set]{fullShare} f) := fun f => by rw [set_oRow]
  iintro ⟨#Hmw, Ho, Hr, HsemW, HO⟩ Hk
  ihave Ho := (Entails.of_eq (ho fo)) $$ Ho
  unfold writeOut
  sl_exec
  sl_step
  iapply Hk
  isplitl [Ho]
  · iapply (Entails.of_eq ((congrArg (fun f => ((oRow L).view.loc (vT d L) ↦[(oRow L).view.set]{fullShare} f : sProp 𝕄))
      ((congrArg (fun w => (oRow L).view.writes (Elt F) fo [⟨Rect.whole S1024x16, w⟩])
          (show wp_writeOut.sl.dma0 tab ids d L = rowsOf tab ids d L from rfl)).trans
        (View.write_univ_eq_writes_whole (Val := Elt F) (oRow L).view fo [] (rowsOf tab ids d L)).symm)).trans
        ((pointsTo_congr (write_oRow tab ids d L fo)).trans (ho _).symm))) $$ Ho
  isplitl [Hr]; · iexact Hr
  isplitl [HsemW]; · iexact HsemW
  iexists _
  isplitr
  swap; · iexact HO
  ipureintro; intro p hp
  rcases Finset.mem_insert.mp hp with hp | hp
  · exact .inr (hp ▸ rfl)
  · exact .inl hp

/-! ## The tile's run -/

/-- Tile `L`'s run: its row numbers, its piece of the table and its rows of the result at contents `f`, in; the same
    with its rows of the result gathered, out. -/
theorem tile_body (hF : (K (F := F)).Facts) (hlt : ∀ x, (ids d x).toNat < 32776) (q : PosShare TreeShare) (fo : Buf (Elt F) (oLoc d))
    (O : CellTallies nD τ sig (HIx 1)) (W : Waits sig (HIx 1)) (hO : ∀ g, O g none = 0) :
    iprop(levAts (K (F := F)).L (K (F := F)).lev ∗ emp
        ∗ (iRowPts ids d (wL L) ∗ tShPts tab d q ∗ oRowPts d (wL L) fo)
        ∗ scopedBufs (vT d L) ∗ scopedSems0 (vT d L) ∗ owes (vT d L) O W)
      ⊢ wp frame (wpE (defs₀ (F := F)) 𝒱₀ (vT d L) none) Set.univ
          (cc1_gather_kernel L tV (Memref.isWhole_whole _) iV (Memref.isWhole_whole _) oV (Memref.isWhole_whole _)
            sV (Memref.isWhole_whole _) rV (Memref.isWhole_whole _) cc1_scratch2 cc1_scoped0 cc1_scoped1)
          fun _ => iprop((iRowPts ids d (wL L) ∗ tShPts tab d q ∗ oRowPts d (wL L) (res tab ids d))
            ∗ scopedBufs (vT d L) ∗ scopedSems0 (vT d L)
            ∗ ∃ W', ⌜∀ p ∈ W', p ∈ W ∨ p.2 = none⌝ ∗ owes (vT d L) O W') := by
  rw [tileProg_eq, (K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemF, HsemW, Hsems⟩, HO⟩
  ihave #Hmw := (show levAts (K (F := F)).L (K (F := F)).lev ⊢ Transfers.MayWaits (vT d L) (default : HIx 1) O from
    (K (F := F)).mayWaits_none (thr := vT d L) hO) $$ Hlv
  iapply (wp_fetch ids d L O W fs) $$ [Hi Hs HsemF HO]
  · isplitr; · iexact Hmw
    isplitl [Hi]; · iexact Hi
    isplitl [Hs]; · iexact Hs
    isplitl [HsemF]; · iexact HsemF
    iexact HO
  iintro ⟨Hi, Hs, HsemF, ⟨%W₁, %hW₁, HO⟩⟩
  ihave Ht := (pointsTo_split_subset (q := q) (f := tab d) (S := Finset.univ) (Finset.subset_univ tAll.view.set)).1 $$ Ht
  icases Ht with ⟨Ht, Htr⟩
  ihave HG := (Entails.of_eq (gIn_all tab ids d L q fr).symm) $$ [Ht Hr Hs]
  · isplitl [Ht]; · iexact Ht
    isplitl [Hr]; · iexact Hr
    iexact Hs
  imod (Transfers.batch_alloc' (countersEmb : UEmb Counters 𝕄) (vT d L) (sm := .dma cc1_scratch2.sem) (default : HIx 1) 512
    (gDel tab ids d L hlt q fr)) $$ HsemG with HB
  iapply (wp_issues tab ids d L hlt q fr) $$ [HG HB]
  · isplitl [HG]; · rw [← Transfers.bigSep_pending_zero]; iexact HG
    iexact HB
  iintro HB
  iapply (wp_awaits d L (gDel tab ids d L hlt q fr) O W) $$ [HB HO]
  · exact hW₁
  · isplitl [HB]; · iexact HB
    isplitl [HO]; · iexact HO
    iexact Hmw
  iintro ⟨HB, ⟨%W₂, %hW₂, HO⟩⟩
  imod (Transfers.batch_collect' (countersEmb : UEmb Counters 𝕄) (vT d L) (by decide)) $$ HB with ⟨HD, HsemG⟩
  ihave HG := (gDel_join tab ids d L hlt q fr) $$ HD
  ihave HG := (Entails.of_eq (gIn_all tab ids d L q (rowsOf tab ids d L))) $$ HG
  icases HG with ⟨Ht, Hr, Hs⟩
  ihave Ht := (pointsTo_split_subset (q := q) (f := tab d) (S := Finset.univ) (Finset.subset_univ tAll.view.set)).2 $$ [Ht Htr]
  · isplitl [Ht] <;> iassumption
  iapply (wp_writeOut tab ids d L O W₂ fo) $$ [Ho Hr HsemW HO]
  · isplitr; · iexact Hmw
    isplitl [Ho]; · iexact Ho
    isplitl [Hr]; · iexact Hr
    isplitl [HsemW]; · iexact HsemW
    iexact HO
  iintro ⟨Ho, Hr, HsemW, ⟨%W₃, %hW₃, HO⟩⟩
  isplitl [Hi Ht Ho]
  · isplitl [Hi]; · iexact Hi
    isplitl [Ht]; · iexact Ht
    iexact Ho
  isplitl [Hs Hr Hbufs]
  · isplitl [Hs]; · iexists _; iexact Hs
    isplitl [Hr]; · iexists _; iexact Hr
    iexact Hbufs
  isplitl [HsemG HsemF HsemW Hsems]
  · isplitl [HsemG]; · iexact HsemG
    isplitl [HsemF]; · iexact HsemF
    isplitl [HsemW]; · iexact HsemW
    iexact Hsems
  iexists W₃
  isplitr
  swap; · iexact HO
  ipureintro; intro p hp
  rcases hW₃ p hp with hp | hp
  · exact hW₂ p hp
  · exact .inr hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- Every tile's run, as the launch asks for it. -/
theorem tileObl (tab : (d : Dev nD) → Buf (Elt F) (tLoc d)) (ids : (d : Dev nD) → Buf (Elt F) (iLoc d)) (out : (d : Dev nD) → Buf (Elt F) (oLoc d))
    (hlt : ∀ d x, (ids d x).toNat < 32776) : (K (F := F)).TileObl (D (F := F)) 𝒱 (P tab ids out) v₀ 0 := by
  intro d c i O W hO _ _
  simp only [show (P (F := F) tab ids out).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids d (coordsV ⟨_, hci.1⟩ ⟨_, hci.2⟩) facts (hlt d) _ (out d) O W hO).trans (wp_mono frame _ _ fun _ => obl_post)

end Cert.Proof.KernelIdeal

end
-- ==== Proof.KernelIdeal.TcBlock.lean ====
/-
  The TensorCore kernel on one block of 256 tracks: the four numbers and the four marks it writes, as functions of the two
  blocks it reads, and the arrays of numbers and marks the whole grid leaves.
-/
module

public import proofs.«01_k».proof.Proof.KernelIdeal.Setup
public import proofs.«01_k».proof.Proof.Gen.KernelIdeal.Points
public import proofs.«01_k».proof.Proof.Gen.KernelIdeal.Launch
public import Idealize.ShloMosaic.Lib.Pipeline.FrameBody

@[expose] public section

noncomputable section

namespace Cert.Proof.KernelIdeal

open Cert.KernelIdeal Cert.KernelIdeal.Gen

open Idealize.ShloMosaic
open Idealize.SL Idealize.SL.Sem

variable {F : FTy → Type} [FloatOps F]

/-! ## One block -/

section Block

variable (X : Vec F S1x256x2 .f32) (Y : Vec F S1x2x4096 .f32)

/-- The tracks' two coordinates, and the detections'. -/
def trkX : Vec F S1x256x1 .f32 := View.ld X (Rect.unit (s := S1x256x2) ![0, 0, 0] S1x256x1.size inb_S1x256x2_S1x256x1_0_0_0)
def trkY : Vec F S1x256x1 .f32 := View.ld X (Rect.unit (s := S1x256x2) ![0, 0, 1] S1x256x1.size inb_S1x256x2_S1x256x1_0_0_1)
def detX : Vec F S1x1x4096 .f32 := View.ld Y (Rect.unit (s := S1x2x4096) ![0, 0, 0] S1x1x4096.size inb_S1x2x4096_S1x1x4096_0_0_0)
def detY : Vec F S1x1x4096 .f32 := View.ld Y (Rect.unit (s := S1x2x4096) ![0, 1, 0] S1x1x4096.size inb_S1x2x4096_S1x1x4096_0_1_0)

/-- The column numbers, and where a batch's rows of the table start. -/
abbrev cols : IVec S256x4096 32 := iota .tc S256x4096 32 [1] iota_S256x4096_d1_w32
abbrev base (i : grid0.Coords) : BitVec 32 := Scalar.muli (BitVec.ofNat 32 (i 0).val) 4097#32

/-- The distances with the nearest detection of each track taken out. -/
def rest1 : FVec F S256x4096 .f32 := k0_pay10 (trkX X) (trkY X) (detX Y) (detY Y)

/-- The block of row numbers the kernel writes, -/
def idsBlk (i : grid0.Coords) : Vec F S1x256x4 .i32 :=
  k0_pay2 (base i) (k0_pay8 i (trkX X) (trkY X) (detX Y) (detY Y)) (k0_pay14 cols (base i) (rest1 X Y))
    (k0_pay20 cols (base i) (rest1 X Y)) (k0_pay23 cols (rest1 X Y)) (k0_pay24 cols (rest1 X Y))
/-- and its block of marks. -/
def maskBlk : Vec F S1x256x4 .i32 :=
  k0_pay3 (k0_pay9 (trkX X) (trkY X) (detX Y) (detY Y)) (k0_pay15 (rest1 X Y)) (k0_pay21 cols (rest1 X Y)) (k0_pay23 cols (rest1 X Y))

end Block

/-! ## The whole grid -/

/-- The grid point that writes entry `y` of the two results: its batch, and its block of 256 tracks. -/
def ptAt (y : S8x1024x4.Idx) : grid0.Coords
  | 0 => ⟨(y 0).val, (y 0).isLt⟩
  | 1 => ⟨(y 1).val / 256, by have := (y 1).isLt; change _ < 1024 at this; change _ < 4; omega⟩
  | ⟨_ + 2, h⟩ => absurd h (Nat.not_lt.2 (Nat.le_add_left _ _))

/-- The entry within that point's block. -/
def inBlk (y : S8x1024x4.Idx) : S1x256x4.Idx
  | 0 => ⟨0, by decide⟩
  | 1 => ⟨(y 1).val % 256, by change _ < 256; omega⟩
  | 2 => ⟨(y 2).val, (y 2).isLt⟩
  | ⟨_ + 3, h⟩ => absurd h (Nat.not_lt.2 (Nat.le_add_left _ _))

/-- The block of tracks at a grid point, and its batch of detections. -/
def trkBlk (a : Vec F S8x1024x2 .f32) (i : grid0.Coords) : Vec F S1x256x2 .f32 := fun j => a fun
  | 0 => ⟨(i 0).val, (i 0).isLt⟩
  | 1 => ⟨(i 1).val * 256 + (j 1).val, by have := (i 1).isLt; have := (j 1).isLt; change (i 1).val < 4 at *; change _ < 1024; change (j 1).val < 256 at *; omega⟩
  | 2 => ⟨(j 2).val, (j 2).isLt⟩
  | ⟨_ + 3, h⟩ => absurd h (Nat.not_lt.2 (Nat.le_add_left _ _))
def detBlk (b : Vec F S8x2x4096 .f32) (i : grid0.Coords) : Vec F S1x2x4096 .f32 := fun j => b fun
  | 0 => ⟨(i 0).val, (i 0).isLt⟩
  | 1 => ⟨(j 1).val, (j 1).isLt⟩
  | 2 => ⟨(j 2).val, (j 2).isLt⟩
  | ⟨_ + 3, h⟩ => absurd h (Nat.not_lt.2 (Nat.le_add_left _ _))

/-- The row numbers and the marks of all tracks. -/
def idsArr (a : Vec F S8x1024x2 .f32) (b : Vec F S8x2x4096 .f32) : Vec F S8x1024x4 .i32 := fun y =>
  idsBlk (trkBlk a (ptAt y)) (detBlk b (ptAt y)) (ptAt y) (inBlk y)
def maskArr (a : Vec F S8x1024x2 .f32) (b : Vec F S8x2x4096 .f32) : Vec F S8x1024x4 .i32 := fun y =>
  maskBlk (trkBlk a (ptAt y)) (detBlk b (ptAt y)) (inBlk y)

end Cert.Proof.KernelIdeal

end
-- ==== Proof.KernelIdeal.Tc.lean ====
/-
  The TensorCore's pipeline while the SparseCores wait for their call: its body at a grid point, what the two result
  arrays hold after the last point, and the region the pipeline makes of @main. The core owes the SparseCores their start
  throughout; nothing the pipeline waits for sits above that debt.
-/
module

public import proofs.«01_k».proof.Proof.KernelIdeal.TcBlock
public import Idealize.ShloMosaic.Lib.Pipeline.RegionArrays
public import Idealize.ShloMosaic.Lib.Pipeline.ValueKit

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body at one grid point -/

theorem zero3 : (![0, 0, 0] : Fin 3 → ℕ) = fun _ => 0 := by funext a; fin_cases a <;> rfl

/-- A store of a whole block leaves the block. -/
theorem read_whole_store {sp : Space} {S : Shape} {e : EltTy} (v : View sig .tc sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit (s := S) off S.size inb, w⟩]) = w := by
  rw [View.read_writes_eq_canon _ _ _ fun y => ⟨_, List.mem_singleton_self _, View.mem_set_unit_zero h inb y⟩]
  exact View.canon_unit_zero h inb w

/-- A whole buffer owned at what it reads. -/
theorem owns_of_whole (c : Dev nD) {sp : Space} {S : Shape} {e : EltTy} {M : Memref sig .tc sp S e} (h : M.IsWhole) (X : S.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

set_option maxRecDepth 65536 in
/-- The kernel on four staging buffers: the two blocks read stay, and the two results become the block functions of them. -/
theorem wp_body (c : Dev nD) (i : grid0.Coords) (M0 : Memref sig .tc .vmem S1x256x2 .f32) (h0 : M0.IsWhole)
    (M1 : Memref sig .tc .vmem S1x2x4096 .f32) (h1 : M1.IsWhole) (M2 : Memref sig .tc .vmem S1x256x4 .i32) (h2 : M2.IsWhole)
    (M3 : Memref sig .tc .vmem S1x256x4 .i32) (h3 : M3.IsWhole) (X : Vec F S1x256x2 .f32) (Y : Vec F S1x2x4096 .f32)
    (A B : Vec F S1x256x4 .i32) (E : Set ℕ) (Q : PUnit → sProp 𝕄) :
    iprop(owns (c : Thread nD τ) M0 fullShare X ∗ owns (c : Thread nD τ) M1 fullShare Y
        ∗ owns (c : Thread nD τ) M2 fullShare A ∗ owns (c : Thread nD τ) M3 fullShare B
        ∗ ((owns (c : Thread nD τ) M0 fullShare X ∗ owns (c : Thread nD τ) M1 fullShare Y
            ∗ owns (c : Thread nD τ) M2 fullShare (idsBlk X Y i) ∗ owns (c : Thread nD τ) M3 fullShare (maskBlk X Y)) -∗ Q ⟨⟩))
      ⊢ wp frame (wpE (defs₀ (F := F)) Variants.none c none) E (cc0__topk_body i M0 h0 M1 h1 M2 h2 M3 h3) Q := by
  rw [owns_of_whole c h0, owns_of_whole c h1, owns_of_whole c h2, owns_of_whole c h3, owns_of_whole c h2, owns_of_whole c h3]
  iintro ⟨⟨%f0, %e0, H0⟩, ⟨%f1, %e1, H1⟩, ⟨%f2, -, H2⟩, ⟨%f3, -, H3⟩, Hk⟩
  subst e0 e1
  rw [cc0__topk_body_eq_skeleton]
  unfold cc0__topk_body_skel
  simp only [k0_part1_eq_skeleton, k0_part2_eq_skeleton]
  unfold k0_part1_skel k0_part2_skel
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro; refine (read_whole_store _ _ zero3 _ _).trans ?_
    unfold idsBlk rest1 trkX trkY detX detY
    dsimp only
    rfl
  · iexists _; isplitr; swap; · iexact H3
    ipureintro; refine (read_whole_store _ _ zero3 _ _).trans ?_
    unfold maskBlk rest1 trkX trkY detX detY
    dsimp only
    rfl

/-! ## The proof data -/

-- the contents of the core's buffers when the pipeline is entered, and when it is left
variable (V V' : (c : Dev nD) → (b : Ref sig .tc) → Buf (Elt F) ((c : Thread nD τ).loc b))

/-- The arrays at entry; what the body leaves of each block at each point; the debt to the SparseCores; the waits recorded, all at
    the lowest level. -/
def dat (c : Dev nD) : Dat τ (Elt F) (HIx 1) ℕ UU ℕ cfg0 c where
  A w := V c (Pipeline.arrRef spec0 w)
  after w t := match w with
    | ⟨0, _⟩ => trkBlk (V c main_v0) (grid0.coords t)
    | ⟨1, _⟩ => detBlk (V c main_v2) (grid0.coords t)
    | ⟨2, _⟩ => idsBlk (trkBlk (V c main_v0) (grid0.coords t)) (detBlk (V c main_v2) (grid0.coords t)) (grid0.coords t)
    | ⟨3, _⟩ => maskBlk (trkBlk (V c main_v0) (grid0.coords t)) (detBlk (V c main_v2) (grid0.coords t))
  Φ _ := BI.emp
  q _ := fullShare
  owed _ := (K (F := F)).Otc c 0
  recorded _ := {p | (K (F := F)).lev ((c : Thread nD τ), p.1) p.2 ≤ 0}

abbrev adm (q : Fin 1) : (pcfgs (F := F) q).Adm := (cfgs q).toPCfg_adm
/-- The same for the program's one pipeline. -/
def pdats : (p : Fin 1) → (c : Dev nD) → Dat τ (Elt F) (HIx 1) ℕ UU ℕ (Pipeline.pin (pcfgs (F := F)) adm p) c := fun _ c => dat V c

/-! ## Blocks of the arrays -/

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)

/-- The block of tracks fetched at a point, -/
theorem blockOf_trk (c : Dev nD) (t : Fin cfg0.N) : (dat V c).blockOf 0 t = trkBlk (V c main_v0) (grid0.coords t) := by
  funext j
  show V c main_v0 _ = V c main_v0 _
  blk_simp
  congr 1
  funext a
  match a with
  | 0 => exact Fin.ext (by blk_simp [idx0, idx1]; rfl)
  | 1 => exact Fin.ext (by blk_simp [idx0, idx1]; rfl)
  | 2 => exact Fin.ext (by blk_simp [idx0, idx1]; rfl)
/-- and the batch of detections. -/
theorem blockOf_det (c : Dev nD) (t : Fin cfg0.N) : (dat V c).blockOf 1 t = detBlk (V c main_v2) (grid0.coords t) := by
  funext j
  show V c main_v2 _ = V c main_v2 _
  blk_simp
  congr 1
  funext a
  match a with
  | 0 => exact Fin.ext (by blk_simp [idx0, idx1]; rfl)
  | 1 => exact Fin.ext (by blk_simp [idx0, idx1]; rfl)
  | 2 => exact Fin.ext (by blk_simp [idx0, idx1]; rfl)

theorem before_trk (c : Dev nD) (t : Fin cfg0.N) (d : (cfg0.win 0).block.Idx → Elt F (cfg0.win 0).elt) :
    (dat V c).before 0 t d = trkBlk (V c main_v0) (grid0.coords t) :=
  ((dat V c).before_in_eq_fetched 0 rfl (fun _ => rfl) (fun _ _ _ => rfl) (fun t => (blockOf_trk V c t).symm) t d).trans (blockOf_trk V c t)
theorem before_det (c : Dev nD) (t : Fin cfg0.N) (d : (cfg0.win 1).block.Idx → Elt F (cfg0.win 1).elt) :
    (dat V c).before 1 t d = detBlk (V c main_v2) (grid0.coords t) :=
  ((dat V c).before_in_eq_fetched 1 rfl (fun _ => rfl) (fun _ _ _ => rfl) (fun t => (blockOf_det V c t).symm) t d).trans (blockOf_det V c t)

/-- The body's obligation to the pipeline. -/
theorem body_obligation (c : Dev nD) : BodyObligation (dat V c) (defs₀ (F := F)) 𝒱₀ none Set.univ := fun t => by
  rw [bigSep_W0, bigSep_W0]
  rw [show (dat V c).owesAt none t.succ = (dat V c).owesAt none t.castSucc from rfl]
  iintro ⟨-, HO, ⟨%d0, H0⟩, ⟨%d1, H1⟩, ⟨%d2, H2⟩, ⟨%d3, H3⟩⟩
  rw [before_trk, before_det]
  iapply (wp_body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) _ _ _ _ Set.univ _)
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]; · iexact H0
  isplitl [H1]; · iexact H1
  isplitl [H2]; · iexact H2
  iexact H3

/-! ## The two result arrays after the last point -/

/-- An array index in the block of point `t`, at the block's entry `y`, is that point's, and that entry. -/
theorem ptAt_eq {t : Fin cfg0.N} {y : S1x256x4.Idx} {z : S8x1024x4.Idx} (e0 : (z 0).val = (grid0.coords t 0).val)
    (e1 : (z 1).val = (grid0.coords t 1).val * 256 + (y 1).val) : ptAt z = grid0.coords t := by
  have hy : (y 1).val < 256 := (y 1).isLt
  funext a
  match a with
  | 0 => exact Fin.ext e0
  | 1 => exact Fin.ext (show (z 1).val / 256 = _ by rw [e1]; omega)
theorem inBlk_eq {t : Fin cfg0.N} {y : S1x256x4.Idx} {z : S8x1024x4.Idx}
    (e1 : (z 1).val = (grid0.coords t 1).val * 256 + (y 1).val) (e2 : (z 2).val = (y 2).val) : inBlk z = y := by
  have hy : (y 1).val < 256 := (y 1).isLt
  have hy0 : (y 0).val < 1 := (y 0).isLt
  funext a
  match a with
  | 0 => exact Fin.ext (show 0 = (y 0).val by omega)
  | 1 => exact Fin.ext (show (z 1).val % 256 = _ by rw [e1]; omega)
  | 2 => exact Fin.ext e2

theorem ids_final (c : Dev nD) : (dat V c).arrAt 2 cfg0.N = idsArr (V c main_v0) (V c main_v2) := by
  refine (dat V c).arrAt_eq_of_covers 2 _ (by decide +kernel) fun t hf y => ?_
  blk_simp
  show idsBlk (trkBlk (V c main_v0) (grid0.coords t)) (detBlk (V c main_v2) (grid0.coords t)) (grid0.coords t) y = idsBlk _ _ _ _
  have e0 : ((win0_2.blk t).view.emb y 0).val = (grid0.coords t 0).val := by
    blk_simp [idx2]
  have e1 : ((win0_2.blk t).view.emb y 1).val = (grid0.coords t 1).val * 256 + (y 1).val := by blk_simp [idx2]
  have e2 : ((win0_2.blk t).view.emb y 2).val = (y 2).val := by blk_simp [idx2]
  rw [ptAt_eq e0 e1, inBlk_eq e1 e2]

theorem mask_final (c : Dev nD) : (dat V c).arrAt 3 cfg0.N = maskArr (V c main_v0) (V c main_v2) := by
  refine (dat V c).arrAt_eq_of_covers 3 _ (by decide +kernel) fun t hf y => ?_
  blk_simp
  show maskBlk (trkBlk (V c main_v0) (grid0.coords t)) (detBlk (V c main_v2) (grid0.coords t)) y = maskBlk _ _ _
  have e0 : ((win0_3.blk t).view.emb y 0).val = (grid0.coords t 0).val := by
    blk_simp [idx3]
  have e1 : ((win0_3.blk t).view.emb y 1).val = (grid0.coords t 1).val * 256 + (y 1).val := by blk_simp [idx3]
  have e2 : ((win0_3.blk t).view.emb y 2).val = (y 2).val := by blk_simp [idx3]
  rw [ptAt_eq e0 e1, inBlk_eq e1 e2]

/-! ## The region -/

/-- What the core holds outside the pipeline: its buffers at `V`, and its debt with every wait it recorded at the lowest level. -/
abbrev stAt (W : (c : Dev nD) → (b : Ref sig .tc) → Buf (Elt F) ((c : Thread nD τ).loc b)) (c : Dev nD) : sProp 𝕄 :=
  iprop(unscopedBufs c (W c) ∗ ∃ w, ⌜(K (F := F)).WBelow (T c) w 0⌝ ∗ owes (c : Thread nD τ) ((K (F := F)).Otc c 0) w)

set_option backward.isDefEq.respectTransparency.types false in
/-- The pipeline as a region of @main: entered with the buffers at `V`, left with them at `V'`, which has the two result arrays at the
    row numbers and the marks of the tracks and detections of `V`, and every other buffer as in `V`. -/
def reg (h0 : ∀ c, V' c main_v3_0 = idsArr (V c main_v0) (V c main_v2)) (h1 : ∀ c, V' c main_v3_1 = maskArr (V c main_v0) (V c main_v2))
    (hne : ∀ c (b : Ref sig .tc), b ≠ main_v3_0 → b ≠ main_v3_1 → V' c b = V c b) :
    Pipeline.RegionSeg (pcfgs (F := F)) adm (pdats V) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_rfl)
    (fun g i hg => ⟨Finset.mem_univ _, lt_of_lt_of_le (Nat.succ_pos _) (SparseCore.Cfg.lev_of_Otc_pos hg)⟩)
  pre := stAt V
  post := stAt V'
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) winFacts0 arr_whole0 c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro ⟨-, -, Hr⟩; iapply (Entails.of_eq (scopedRest0_eq c)); iexact Hr
  hout c := by
    rw [Pipeline.ownSems0_none, show (pdats V 0 c).Φ (Fin.last _) = BI.emp from rfl]
    iintro -
    isplitr; · iempintro
    isplitr; · iempintro
    iapply (Entails.of_eq (scopedRest0_eq c).symm); iempintro
  hexit c := by
    have hjoin := Pipeline.unscopedBufs_of_arrays (p := 0) (pcfgs (F := F)) adm (Ix := HIx 1) (Name := ℕ) (U := UU) (Lvl := ℕ) winFacts0 arr_whole0 c
      (pdats V) ((pdats V 0 c).share_full fun _ => rfl) (V c) (V' c) ((pdats V 0 c).arrAt · cfg0.N)
      (fun w => by
        fin_cases w
        · exact ((pdats V 0 c).arrAt_in 0 rfl _).trans (hne c main_v0 (by decide) (by decide)).symm
        · exact ((pdats V 0 c).arrAt_in 1 rfl _).trans (hne c main_v2 (by decide) (by decide)).symm
        · exact (ids_final V c).trans (h0 c).symm
        · exact (mask_final V c).trans (h1 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · subst h; exact le_rfl
    iexact HO

/-- The pipeline's call in @main, on core `c`. -/
theorem wp_region (h0 : ∀ c, V' c main_v3_0 = idsArr (V c main_v0) (V c main_v2)) (h1 : ∀ c, V' c main_v3_1 = maskArr (V c main_v0) (V c main_v2))
    (hne : ∀ c (b : Ref sig .tc), b ≠ main_v3_0 → b ≠ main_v3_1 → V' c b = V c b) (c : Dev nD)
    {α : Type} (k : PUnit → Prog (TpuEff nD τ sig (Elt F) (SparseCore.Sig (ΛP (F := F)) 1) .tc) α) (Q : α → sProp 𝕄) :
    iprop((iprop(boundary (c : Thread nD τ) ∗ stAt V' c) -∗ wp frame (wpE ((K (F := F)).defs (D (F := F))) 𝒱 (T c) none) Set.univ (k ⟨⟩) Q)
        ∗ boundary (c : Thread nD τ) ∗ stAt V c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (T c) none) Set.univ (.op (.customCall (SparseCore.inner (Pipeline.entry 0)) ()) k) Q := by
  show _ ⊢ wp frame (wpE ((K (F := F)).defs (D (F := F))) 𝒱 (T c) none) Set.univ
    (SparseCore.liftProg (.op (.customCall (Pipeline.entry 0) ()) fun x => .ret x) >>= k) Q
  rw [wp_bind]
  refine BIBase.Entails.trans ?_ ((K (F := F)).wp_liftProg (D (F := F)) 𝒱 (T c) Set.univ none _ _)
  refine BIBase.Entails.trans ?_ (Pipeline.RegionSeg.wp (pcfgs (F := F)) adm (pdats V) none cellOf_inj EP defs₀ 𝒱₀ (K (F := F)).L (K (F := F)).lev
    (reg V V' h0 h1 hne) c none (fun u hu => nomatch hu) _ _)
  iintro ⟨Hk, Hb, Hst, Hl, Hg, Ht⟩
  isplitl [Hk]
  · iintro H
    rw [wp_ret]
    imodintro
    iapply Hk; iexact H
  isplitl [Hb]; · iexact Hb
  isplitl [Hst]; · iapply (Entails.of_eq (show stAt V c = (reg V V' h0 h1 hne).pre c from rfl)); iexact Hst
  isplitl [Hl]; · iexact Hl
  isplitl [Hg] <;> iassumption

end Cert.Proof.KernelIdeal

end
-- ==== Proof.KernelIdeal.Host.lean ====
/-
  @main around its two calls: the three stretches of host operations, what every buffer holds between them, and the three
  results as functions of the arguments.
-/
module

public import proofs.«01_k».proof.Proof.KernelIdeal.Setup
public import proofs.«01_k».proof.Proof.KernelIdeal.TcBlock
public import Idealize.ShloMosaic.Lib.StableHlo.Run

@[expose] public section

noncomputable section

namespace Cert.Proof.KernelIdeal

open Cert.KernelIdeal Cert.KernelIdeal.Gen

open Idealize.ShloMosaic
open Idealize.ShloMosaic.TcCoe Idealize.ShloMosaic.Tactic
open Idealize.SL.Sem

variable {F : FTy → Type} [FloatOps F]

/-! ## The host operations -/

/-- The host operations before the TensorCore's pipeline: the two columns of the tracks, and of the detections, transposed. -/
def opsBefore : List (HloOp τ sig (Elt F)) :=
  [StableHlo.unary main_arg0 main_v0 ((extractStridedSlice S8x1024x2 ![0, 0, 0] · slices_S8x1024x8_S8x1024x2_0_0_0) : (⟨S8x1024x8, .f32⟩ : BufTy).Contents (Elt F) → (⟨S8x1024x2, .f32⟩ : BufTy).Contents (Elt F)),
   StableHlo.unary main_arg1 main_v1 ((extractStridedSlice S8x4096x2 ![0, 0, 0] · slices_S8x4096x7_S8x4096x2_0_0_0) : (⟨S8x4096x7, .f32⟩ : BufTy).Contents (Elt F) → (⟨S8x4096x2, .f32⟩ : BufTy).Contents (Elt F)),
   StableHlo.unary main_v1 main_v2 ((transpose S8x2x4096 [0, 2, 1] · transposes_S8x4096x2_S8x2x4096_0_2_1) : (⟨S8x4096x2, .f32⟩ : BufTy).Contents (Elt F) → (⟨S8x2x4096, .f32⟩ : BufTy).Contents (Elt F))]

/-- Those between the pipeline and the SparseCores' call: the table of padded rows and the row numbers, reshaped. -/
def opsBetween : List (HloOp τ sig (Elt F)) :=
  [StableHlo.nullary main_cst (constant S_ .f32 0x00000000#32),
   StableHlo.unary main_cst main_v4 (broadcastInDim S8x4097x16 ![] bcast_S_S8x4097x16 : (⟨S_, .f32⟩ : BufTy).Contents (Elt F) → (⟨S8x4097x16, .f32⟩ : BufTy).Contents (Elt F)),
   StableHlo.nullary main_c (constantI S_ 32 0#32),
   StableHlo.unary main_c main_v5 (broadcastInDim S1 ![] bcast_S_S1 : (⟨S_, .i32⟩ : BufTy).Contents (Elt F) → (⟨S1, .i32⟩ : BufTy).Contents (Elt F)),
   StableHlo.nullary main_c_0 (constantI S_ 32 0#32),
   StableHlo.unary main_c_0 main_v6 (broadcastInDim S1 ![] bcast_S_S1 : (⟨S_, .i32⟩ : BufTy).Contents (Elt F) → (⟨S1, .i32⟩ : BufTy).Contents (Elt F)),
   StableHlo.binary main_v5 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v4 main_v7 main_arg1 main_v8 ((fun x i u => Host.scatter scatter_S8x4097x16_S2_S8x4096x7_012_n_12_0 (fun _ b => b) x i u) : (⟨S8x4097x16, .f32⟩ : BufTy).Contents (Elt F) → (⟨S2, .i32⟩ : BufTy).Contents (Elt F) → (⟨S8x4096x7, .f32⟩ : BufTy).Contents (Elt F) → (⟨S8x4097x16, .f32⟩ : BufTy).Contents (Elt F)),
   StableHlo.reshape main_v8 main_v9 (rfl : (.f32 : EltTy) = .f32) shapeCasts_S8x4097x16_S32776x16,
   StableHlo.reshape main_v3_0 main_v10 (rfl : (.i32 : EltTy) = .i32) shapeCasts_S8x1024x4_S32x8x128]

/-- Those after the call: the three results. -/
def opsAfter : List (HloOp τ sig (Elt F)) :=
  [StableHlo.reshape main_v11 main_v12 (rfl : (.f32 : EltTy) = .f32) shapeCasts_S32768x16_S8x1024x4x16,
   StableHlo.unary main_v12 main_v13 ((extractStridedSlice S8x1024x4x8 ![0, 0, 0, 0] · slices_S8x1024x4x16_S8x1024x4x8_0_0_0_0) : (⟨S8x1024x4x16, .f32⟩ : BufTy).Contents (Elt F) → (⟨S8x1024x4x8, .f32⟩ : BufTy).Contents (Elt F)),
   StableHlo.unary main_arg0 main_v14 (broadcastInDim S8x1024x1x8 ![0, 1, 3] bcast_S8x1024x8_S8x1024x1x8_0_1_3 : (⟨S8x1024x8, .f32⟩ : BufTy).Contents (Elt F) → (⟨S8x1024x1x8, .f32⟩ : BufTy).Contents (Elt F)),
   StableHlo.binary main_v14 main_v13 main_v15 ((fun a b => concatenate S8x1024x5x8 2 [⟨S8x1024x1x8, a⟩, ⟨S8x1024x4x8, b⟩] concatenates_S8x1024x1x8_S8x1024x4x8_S8x1024x5x8_d2) : (⟨S8x1024x1x8, .f32⟩ : BufTy).Contents (Elt F) → (⟨S8x1024x4x8, .f32⟩ : BufTy).Contents (Elt F) → (⟨S8x1024x5x8, .f32⟩ : BufTy).Contents (Elt F)),
   StableHlo.unary main_v15 main_v16 (broadcastInDim S8x1x1024x5x8 ![0, 2, 3, 4] bcast_S8x1024x5x8_S8x1x1024x5x8_0_2_3_4 : (⟨S8x1024x5x8, .f32⟩ : BufTy).Contents (Elt F) → (⟨S8x1x1024x5x8, .f32⟩ : BufTy).Contents (Elt F)),
   StableHlo.unary main_arg2 main_v17 (broadcastInDim S8x10x1024x1x8 ![0, 1, 2, 4] bcast_S8x10x1024x8_S8x10x1024x1x8_0_1_2_4 : (⟨S8x10x1024x8, .f32⟩ : BufTy).Contents (Elt F) → (⟨S8x10x1024x1x8, .f32⟩ : BufTy).Contents (Elt F)),
   StableHlo.unary main_v17 main_v18 (broadcastInDim S8x10x1024x5x8 ![0, 1, 2, 3, 4] bcast_S8x10x1024x1x8_S8x10x1024x5x8_0_1_2_3_4 : (⟨S8x10x1024x1x8, .f32⟩ : BufTy).Contents (Elt F) → (⟨S8x10x1024x5x8, .f32⟩ : BufTy).Contents (Elt F)),
   StableHlo.binary main_v16 main_v18 main_v19 ((fun a b => concatenate S8x11x1024x5x8 1 [⟨S8x1x1024x5x8, a⟩, ⟨S8x10x1024x5x8, b⟩] concatenates_S8x1x1024x5x8_S8x10x1024x5x8_S8x11x1024x5x8_d1) : (⟨S8x1x1024x5x8, .f32⟩ : BufTy).Contents (Elt F) → (⟨S8x10x1024x5x8, .f32⟩ : BufTy).Contents (Elt F) → (⟨S8x11x1024x5x8, .f32⟩ : BufTy).Contents (Elt F)),
   StableHlo.nullary main_c_1 (constantI S_ 32 0#32),
   StableHlo.unary main_c_1 main_v20 (broadcastInDim S8x1024x4 ![] bcast_S_S8x1024x4 : (⟨S_, .i32⟩ : BufTy).Contents (Elt F) → (⟨S8x1024x4, .i32⟩ : BufTy).Contents (Elt F)),
   StableHlo.binary main_v3_1 main_v20 main_v21 (cmpi .ne : (⟨S8x1024x4, .i32⟩ : BufTy).Contents (Elt F) → (⟨S8x1024x4, .i32⟩ : BufTy).Contents (Elt F) → (⟨S8x1024x4, .i1⟩ : BufTy).Contents (Elt F))]

/-- @main is the three stretches, with the pipeline and the call between them. -/
theorem main_eq (d : Dev nD) : main (F := F) d
    = StableHlo.seq opsBefore >>= fun _ => Prog.op (.customCall (SparseCore.inner (Pipeline.entry 0)) ()) fun _ =>
        StableHlo.seq opsBetween >>= fun _ => sc.run d 0 >>= fun _ => StableHlo.seq opsAfter := rfl

/-! ## What the buffers hold -/

section Values

variable (a0 : Vec F S8x1024x8 .f32) (a1 : Vec F S8x4096x7 .f32) (a2 : Vec F S8x10x1024x8 .f32)

/-- The two columns the pipeline compares: the tracks', and the detections', transposed. -/
def trkCols : Vec F S8x1024x2 .f32 := extractStridedSlice S8x1024x2 ![0, 0, 0] a0 slices_S8x1024x8_S8x1024x2_0_0_0
def detCols : Vec F S8x2x4096 .f32 :=
  transpose S8x2x4096 [0, 2, 1] (extractStridedSlice S8x4096x2 ![0, 0, 0] a1 slices_S8x4096x7_S8x4096x2_0_0_0) transposes_S8x4096x2_S8x2x4096_0_2_1

/-- The row numbers and the marks the pipeline writes. -/
def idsOf : Vec F S8x1024x4 .i32 := idsArr (trkCols a0) (detCols a1)
def maskOf : Vec F S8x1024x4 .i32 := maskArr (trkCols a0) (detCols a1)

/-- The detections written over zeros, one row of zeros after each batch's, -/
def padded : Vec F S8x4097x16 .f32 :=
  Host.scatter scatter_S8x4097x16_S2_S8x4096x7_012_n_12_0 (fun _ b => b)
    (broadcastInDim S8x4097x16 ![] bcast_S_S8x4097x16 (constant (F := F) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    a1
/-- all rows in one table. -/
def table : Vec F S32776x16 .f32 := shapeCast S32776x16 (padded a1) shapeCasts_S8x4097x16_S32776x16
/-- The row numbers as the SparseCores take them. -/
def idRows : Vec F S32x8x128 .i32 := shapeCast S32x8x128 (idsOf a0 a1) shapeCasts_S8x1024x4_S32x8x128
/-- The rows the SparseCores fetch. -/
def fetched : Vec F S32768x16 .f32 := gathered (table a1) (idRows a0 a1)

/-- The second result: each track's row, then the first eight columns of its four fetched rows; -/
def out1 : Vec F S8x1x1024x5x8 .f32 :=
  broadcastInDim S8x1x1024x5x8 ![0, 2, 3, 4] bcast_S8x1024x5x8_S8x1x1024x5x8_0_2_3_4
    (concatenate S8x1024x5x8 2 [⟨S8x1024x1x8, broadcastInDim S8x1024x1x8 ![0, 1, 3] bcast_S8x1024x8_S8x1024x1x8_0_1_3 a0⟩,
      ⟨S8x1024x4x8, extractStridedSlice S8x1024x4x8 ![0, 0, 0, 0] (shapeCast S8x1024x4x16 (fetched a0 a1) shapeCasts_S32768x16_S8x1024x4x16)
        slices_S8x1024x4x16_S8x1024x4x8_0_0_0_0⟩] concatenates_S8x1024x1x8_S8x1024x4x8_S8x1024x5x8_d2)
/-- the first: the second followed by the trajectories, each five times; -/
def out0 : Vec F S8x11x1024x5x8 .f32 :=
  concatenate S8x11x1024x5x8 1 [⟨S8x1x1024x5x8, out1 a0 a1⟩,
    ⟨S8x10x1024x5x8, broadcastInDim S8x10x1024x5x8 ![0, 1, 2, 3, 4] bcast_S8x10x1024x1x8_S8x10x1024x5x8_0_1_2_3_4
      (broadcastInDim S8x10x1024x1x8 ![0, 1, 2, 4] bcast_S8x10x1024x8_S8x10x1024x1x8_0_1_2_4 a2)⟩]
    concatenates_S8x1x1024x5x8_S8x10x1024x5x8_S8x11x1024x5x8_d1
/-- the third: where a mark is not zero. -/
def out2 : Vec F S8x1024x4 .i1 := cmpi .ne (maskOf a0 a1) (broadcastInDim S8x1024x4 ![] bcast_S_S8x1024x4 (constantI S_ 32 0#32))

end Values

section Valuations

variable (m : (ℓ : Loc nD τ sig) → Buf (Elt F) ℓ) (d : Dev nD)

/-- The arguments on device `d`. -/
abbrev arg0 : Vec F S8x1024x8 .f32 := m ((d : Thread nD τ).loc main_arg0)
abbrev arg1 : Vec F S8x4096x7 .f32 := m ((d : Thread nD τ).loc main_arg1)
abbrev arg2 : Vec F S8x10x1024x8 .f32 := m ((d : Thread nD τ).loc main_arg2)

/-- What the device's buffers hold before the pipeline, after it, before the call, after it, and at the end. -/
def W1 : Valuation τ sig (Elt F) := StableHlo.after opsBefore fun b => m (d, b)
def W2 : Valuation τ sig (Elt F) := Function.update (Function.update (W1 m d) (Proc.devRef .tc main_v3_0) (idsOf (arg0 m d) (arg1 m d)))
  (Proc.devRef .tc main_v3_1) (maskOf (arg0 m d) (arg1 m d))
def W3 : Valuation τ sig (Elt F) := StableHlo.after opsBetween (W2 m d)
def W4 : Valuation τ sig (Elt F) := Function.update (W3 m d) (Proc.devRef .tc main_v11) (fetched (arg0 m d) (arg1 m d))
def W5 : Valuation τ sig (Elt F) := StableHlo.after opsAfter (W4 m d)

theorem W1_v0 : W1 m d (Proc.devRef .tc main_v0) = trkCols (arg0 m d) := by unfold W1 opsBefore; after_results; rfl
theorem W1_v2 : W1 m d (Proc.devRef .tc main_v2) = detCols (arg1 m d) := by unfold W1 opsBefore; after_results; rfl
theorem W1_arg0 : W1 m d (Proc.devRef .tc main_arg0) = arg0 m d := by unfold W1 opsBefore; after_results
theorem W1_arg1 : W1 m d (Proc.devRef .tc main_arg1) = arg1 m d := by unfold W1 opsBefore; after_results
theorem W1_arg2 : W1 m d (Proc.devRef .tc main_arg2) = arg2 m d := by unfold W1 opsBefore; after_results

/-- The pipeline changes its two results. -/
theorem W2_ids : W2 m d (Proc.devRef .tc main_v3_0) = idsOf (arg0 m d) (arg1 m d) := by
  unfold W2; rw [Function.update_of_ne (StableHlo.devRef_ne_of_ne (by decide)), Function.update_self]
theorem W2_mask : W2 m d (Proc.devRef .tc main_v3_1) = maskOf (arg0 m d) (arg1 m d) := by
  unfold W2; rw [Function.update_self]
theorem W2_ne (b : Ref sig .tc) (h0 : b ≠ main_v3_0) (h1 : b ≠ main_v3_1) : W2 m d (Proc.devRef .tc b) = W1 m d (Proc.devRef .tc b) := by
  unfold W2; rw [Function.update_of_ne (StableHlo.devRef_ne_of_ne h1), Function.update_of_ne (StableHlo.devRef_ne_of_ne h0)]

theorem W3_v9 : W3 m d (Proc.devRef .tc main_v9) = table (arg1 m d) := by
  unfold W3 opsBetween; after_results; rw [W2_ne m d main_arg1 (by decide) (by decide), W1_arg1]; rfl
theorem W3_v10 : W3 m d (Proc.devRef .tc main_v10) = idRows (arg0 m d) (arg1 m d) := by
  unfold W3 opsBetween; after_results; rw [W2_ids]; rfl
theorem W3_mask : W3 m d (Proc.devRef .tc main_v3_1) = maskOf (arg0 m d) (arg1 m d) := by
  unfold W3 opsBetween; after_results; rw [W2_mask]
theorem W3_arg0 : W3 m d (Proc.devRef .tc main_arg0) = arg0 m d := by
  unfold W3 opsBetween; after_results; rw [W2_ne m d main_arg0 (by decide) (by decide), W1_arg0]
theorem W3_arg1 : W3 m d (Proc.devRef .tc main_arg1) = arg1 m d := by
  unfold W3 opsBetween; after_results; rw [W2_ne m d main_arg1 (by decide) (by decide), W1_arg1]
theorem W3_arg2 : W3 m d (Proc.devRef .tc main_arg2) = arg2 m d := by
  unfold W3 opsBetween; after_results; rw [W2_ne m d main_arg2 (by decide) (by decide), W1_arg2]

/-- The call changes its result. -/
theorem W4_v11 : W4 m d (Proc.devRef .tc main_v11) = fetched (arg0 m d) (arg1 m d) := by
  unfold W4; rw [Function.update_self]
theorem W4_ne (b : Ref sig .tc) (h : b ≠ main_v11) : W4 m d (Proc.devRef .tc b) = W3 m d (Proc.devRef .tc b) := by
  unfold W4; rw [Function.update_of_ne (StableHlo.devRef_ne_of_ne h)]

/-- At the end the three results are there, and the arguments are as they were. -/
theorem W5_v16 : W5 m d (Proc.devRef .tc main_v16) = out1 (arg0 m d) (arg1 m d) := by
  unfold W5 opsAfter; after_results; rw [W4_v11, W4_ne m d main_arg0 (by decide), W3_arg0]; rfl
theorem W5_v19 : W5 m d (Proc.devRef .tc main_v19) = out0 (arg0 m d) (arg1 m d) (arg2 m d) := by
  unfold W5 opsAfter; after_results
  rw [W4_v11, W4_ne m d main_arg0 (by decide), W3_arg0, W4_ne m d main_arg2 (by decide), W3_arg2]; rfl
theorem W5_v21 : W5 m d (Proc.devRef .tc main_v21) = out2 (arg0 m d) (arg1 m d) := by
  unfold W5 opsAfter; after_results; rw [W4_ne m d main_v3_1 (by decide), W3_mask]; rfl
theorem W5_arg0 : W5 m d (Proc.devRef .tc main_arg0) = arg0 m d := by
  unfold W5 opsAfter; after_results; rw [W4_ne m d main_arg0 (by decide), W3_arg0]
theorem W5_arg1 : W5 m d (Proc.devRef .tc main_arg1) = arg1 m d := by
  unfold W5 opsAfter; after_results; rw [W4_ne m d main_arg1 (by decide), W3_arg1]
theorem W5_arg2 : W5 m d (Proc.devRef .tc main_arg2) = arg2 m d := by
  unfold W5 opsAfter; after_results; rw [W4_ne m d main_arg2 (by decide), W3_arg2]

end Valuations

/-- Every host operation names only buffers the TensorCore holds throughout. -/
theorem before_sub : ∀ op ∈ (opsBefore (F := F)), op.bufs ⊆ Pipeline.ucRefs τ sig :=
  fun op h => Pipeline.sub_ucRefs op (List.forall_iff_forall_mem.1 (show (opsBefore (F := F)).Forall fun op => op.bufs ⊆ StableHlo.tcRefs τ sig by simp [opsBefore]) op h)
theorem between_sub : ∀ op ∈ (opsBetween (F := F)), op.bufs ⊆ Pipeline.ucRefs τ sig :=
  fun op h => Pipeline.sub_ucRefs op (List.forall_iff_forall_mem.1 (show (opsBetween (F := F)).Forall fun op => op.bufs ⊆ StableHlo.tcRefs τ sig by simp [opsBetween]) op h)
theorem after_sub : ∀ op ∈ (opsAfter (F := F)), op.bufs ⊆ Pipeline.ucRefs τ sig :=
  fun op h => Pipeline.sub_ucRefs op (List.forall_iff_forall_mem.1 (show (opsAfter (F := F)).Forall fun op => op.bufs ⊆ StableHlo.tcRefs τ sig by simp [opsAfter]) op h)
/-- And every one has a determined result. -/
theorem before_fresh : ∀ op ∈ (opsBefore (F := F)), op.fresh = ∅ := List.forall_iff_forall_mem.1 (by unfold opsBefore; exact ⟨rfl, rfl, rfl⟩)
theorem between_fresh : ∀ op ∈ (opsBetween (F := F)), op.fresh = ∅ :=
  List.forall_iff_forall_mem.1 (by unfold opsBetween; exact ⟨rfl, rfl, rfl, rfl, rfl, rfl, rfl, rfl, rfl, rfl⟩)
theorem after_fresh : ∀ op ∈ (opsAfter (F := F)), op.fresh = ∅ :=
  List.forall_iff_forall_mem.1 (by unfold opsAfter; exact ⟨rfl, rfl, rfl, rfl, rfl, rfl, rfl, rfl, rfl, rfl, rfl⟩)

end Cert.Proof.KernelIdeal

end
-- ==== Proof.KernelIdeal.Rounds.lean ====
/-
  The TensorCore kernel's four rounds on one block are one round repeated: each finds every track's nearest detection among those
  left, writes its number, and takes it out.
-/
module

public import proofs.«01_k».proof.Proof.KernelIdeal.TcBlock
public import proofs.«01_k».proof.Proof.FirstHit
public import Idealize.ShloMosaic.Lib.ValueLayoutCasts
public import Idealize.ShloMosaic.Lib.Pipeline.Value

@[expose] public section

noncomputable section

namespace Cert.Proof.KernelIdeal

open Cert.KernelIdeal Cert.KernelIdeal.Gen
open Idealize.ShloMosaic Idealize.ShloMosaic.ValueIdx

variable {F : FTy → Type} [FloatOps F]

variable (X : Vec F S1x256x2 .f32) (Y : Vec F S1x2x4096 .f32)

/-- The distances of a block, and what is left of them after `n` rounds. -/
def dists : FVec F S256x4096 .f32 := k0_pay4 (trkX X) (trkY X) (detX Y) (detY Y)
def left (x : FVec F S256x4096 .f32) : ℕ → FVec F S256x4096 .f32
  | 0 => x
  | n + 1 => k0_pay16 cols (left x n)

/-- Column `n` of the row numbers and of the marks is round `n`'s. -/
theorem idsBlk_eq (i : grid0.Coords) : idsBlk X Y i = shapeCast S1x256x4
    (concatenate S256x4 1 (List.ofFn fun n : Fin 4 => (⟨S256x1, k0_pay14 cols (base i) (left (dists X Y) n)⟩ : (s : Shape) × (s.Idx → BitVec 32)))
      concatenates_S256x1_S256x1_S256x1_S256x1_S256x4_d1) shapeCasts_S256x4_S1x256x4 := rfl
theorem maskBlk_eq : maskBlk X Y = shapeCast S1x256x4
    (concatenate S256x4 1 (List.ofFn fun n : Fin 4 => (⟨S256x1, k0_pay15 (left (dists X Y) n)⟩ : (s : Shape) × (s.Idx → BitVec 32)))
      concatenates_S256x1_S256x1_S256x1_S256x1_S256x4_d1) shapeCasts_S256x4_S1x256x4 := rfl

/-- Four columns side by side, read at an entry. -/
theorem columns_apply (f : Fin 4 → S256x1.Idx → BitVec 32) (r : Fin 256) (n : Fin 4) :
    shapeCast S1x256x4 (concatenate S256x4 1 (List.ofFn fun n : Fin 4 => (⟨S256x1, f n⟩ : (s : Shape) × (s.Idx → BitVec 32)))
      concatenates_S256x1_S256x1_S256x1_S256x1_S256x4_d1) shapeCasts_S256x4_S1x256x4 (ix3 (0 : Fin 1) r n) = f n (ix2 r (0 : Fin 1)) :=
  (shapeCast_ab_1ab_apply _ _ 0 r n).trans (concatenate_ofFn_unit_apply (t := S256x4) (s₁ := S256x1) 1 f _ rfl rfl (ix2 r n) n rfl (ix2 r (0 : Fin 1))
    fun b hb => match b, hb with | ⟨0, _⟩, _ => rfl | ⟨1, _⟩, hb => absurd rfl hb)

theorem idsBlk_apply (i : grid0.Coords) (r : Fin 256) (n : Fin 4) :
    idsBlk X Y i (ix3 (0 : Fin 1) r n) = k0_pay14 cols (base i) (left (dists X Y) n) (ix2 r (0 : Fin 1)) := by
  rw [idsBlk_eq]; exact columns_apply _ r n
theorem maskBlk_apply (r : Fin 256) (n : Fin 4) :
    maskBlk X Y (ix3 (0 : Fin 1) r n) = k0_pay15 (left (dists X Y) n) (ix2 r (0 : Fin 1)) := by
  rw [maskBlk_eq]; exact columns_apply _ r n

/-! ## One round, one track -/

section Round

variable (x : FVec F S256x4096 .f32) (r : Fin 256)

/-- The track's least distance; which detections are at it; the number of the first of those; whether it is below two. -/
def least : F .f32 := k0_pay11 x (ix2 r (0 : Fin 1))
def hit (k : Fin 4096) : BitVec 1 := FloatOps.cmpf .oeq (x (ix2 r k)) (least x r)
def near : BitVec 32 := k0_pay12 cols x (ix2 r (0 : Fin 1))
def close : BitVec 1 := FloatOps.cmpf .olt (least x r) (Scalar.ofBits .f32 0x40000000#32)

/-- The reduced axis put back. -/
theorem lift_eq (k : Fin 4096) : reduces_S256x4096_S256.lift (ix1 r) k = ix2 r k := by
  funext c; apply Fin.ext; match c with | ⟨0, _⟩ => rfl | ⟨1, _⟩ => rfl

theorem spread_apply {α : Type} (v : S256x1.Idx → α) (k : Fin 4096) :
    broadcastTo S256x4096 v broadcasts_S256x1_S256x4096 (ix2 r k) = v (ix2 r (0 : Fin 1)) := by
  refine broadcastTo_apply v _ (ix2 r k) (ix2 r (0 : Fin 1)) fun ax => ?_
  match ax with | ⟨0, _⟩ => rfl | ⟨1, _⟩ => rfl

theorem cols_apply (k : Fin 4096) : cols (ix2 r k) = BitVec.ofNat 32 k.val := iota_single_apply ..

/-- A detection's number if it is at the least distance, 4096 if not. -/
theorem number_apply (j : S256x4096.Idx) (k : Fin 4096) (hj : j = ix2 r k) :
    Scalar.select (FloatOps.cmpf .oeq (x j) (broadcastTo S256x4096 (k0_pay11 x) broadcasts_S256x1_S256x4096 j)) (cols j) 4096#32
      = Scalar.select (hit x r k) (BitVec.ofNat 32 k.val) 4096#32 := by
  rw [hj, spread_apply, cols_apply]; rfl

theorem near_eq : near x r = Finset.univ.fold IntOp.minsi 2147483647#32 fun k => Scalar.select (hit x r k) (BitVec.ofNat 32 k.val) 4096#32 := by
  unfold near k0_pay12
  classical
  refine (shapeCast_a_a1_apply _ _ r 0).trans ((multiReductionI_eq_fold _ _ _ _ _ _).trans
    ((Shape.Reduces.fold_filter_drop_single (s := S256x4096) (a := 1) (t := S256) reduces_S256x4096_S256 IntOp.minsi 2147483647#32 _ (ix1 r)).trans (Finset.fold_congr fun k _ => ?_)))
  exact number_apply x r _ k (lift_eq r k)

theorem near_le : (near x r).toNat ≤ 4096 := by rw [near_eq]; exact fold_minsi_le (by decide) (by decide) _

theorem pay14_apply (b : BitVec 32) : k0_pay14 cols b x (ix2 r (0 : Fin 1)) = b + Scalar.select (close x r) (near x r) 4096#32 := rfl
theorem pay15_apply : k0_pay15 x (ix2 r (0 : Fin 1)) = (close x r).setWidth 32 := rfl
/-- A round takes the detection it found out. -/
theorem pay16_apply (k : Fin 4096) : k0_pay16 cols x (ix2 r k)
    = Scalar.select (IntOp.cmpi .eq (BitVec.ofNat 32 k.val) (near x r)) (Scalar.ofBits .f32 0x7F800000#32) (x (ix2 r k)) := by
  show Scalar.select (IntOp.cmpi .eq (cols (ix2 r k)) (broadcastTo S256x4096 (k0_pay12 cols x) broadcasts_S256x1_S256x4096 (ix2 r k))) (Scalar.ofBits .f32 0x7F800000#32) (x (ix2 r k)) = _
  rw [cols_apply, spread_apply]; rfl

theorem pay14_lt (b : BitVec 32) (c : ℕ) (hb : b.toNat ≤ c) (hc : c ≤ 28679) : (k0_pay14 cols b x (ix2 r (0 : Fin 1))).toNat ≤ c + 4096 := by
  rw [pay14_apply, BitVec.toNat_add]
  have : (Scalar.select (close x r) (near x r) 4096#32).toNat ≤ 4096 := by
    unfold Scalar.select; split
    · exact near_le x r
    · decide
  omega

end Round

end Cert.Proof.KernelIdeal

end
-- ==== Proof.KernelIdeal.Range.lean ====
/-
  The row numbers and the marks of every track, read at an entry; the row numbers lie within the table.
-/
module

public import proofs.«01_k».proof.Proof.KernelIdeal.Host
public import proofs.«01_k».proof.Proof.KernelIdeal.Rounds

@[expose] public section

noncomputable section

namespace Cert.Proof.KernelIdeal

open Cert.KernelIdeal Cert.KernelIdeal.Gen
open Idealize.ShloMosaic Idealize.ShloMosaic.ValueIdx

variable {F : FTy → Type} [FloatOps F]

/-- The row of its block that entry `y` of the results belongs to. -/
def rowOf (y : S8x1024x4.Idx) : Fin 256 := ⟨(y 1).val % 256, Nat.mod_lt _ (by decide)⟩
def roundOf (y : S8x1024x4.Idx) : Fin 4 := ⟨(y 2).val, (y 2).isLt⟩

theorem inBlk_ix3 (y : S8x1024x4.Idx) : inBlk y = ix3 (0 : Fin 1) (rowOf y) (roundOf y) := by
  funext a; match a with | ⟨0, _⟩ => rfl | ⟨1, _⟩ => rfl | ⟨2, _⟩ => rfl

section Arrays

variable (a : Vec F S8x1024x2 .f32) (b : Vec F S8x2x4096 .f32) (y : S8x1024x4.Idx)

/-- What is left, before an entry's round, of the distances of its block. -/
def leftAt : FVec F S256x4096 .f32 := left (dists (trkBlk a (ptAt y)) (detBlk b (ptAt y))) (roundOf y)

theorem idsArr_apply : idsArr a b y = k0_pay14 cols (base (ptAt y)) (leftAt a b y) (ix2 (rowOf y) (0 : Fin 1)) := by
  unfold idsArr; rw [inBlk_ix3]; exact idsBlk_apply _ _ _ _ _
theorem maskArr_apply : maskArr a b y = k0_pay15 (leftAt a b y) (ix2 (rowOf y) (0 : Fin 1)) := by
  unfold maskArr; rw [inBlk_ix3]; exact maskBlk_apply _ _ _ _

/-- A batch's rows of the table start at 4097 times its number. -/
theorem base_toNat (i : grid0.Coords) : (base i).toNat = (i 0).val * 4097 := by
  have h : (i 0).val < 8 := (i 0).isLt
  show (BitVec.ofNat 32 (i 0).val * 4097#32).toNat = _
  rw [BitVec.toNat_mul, BitVec.toNat_ofNat, show (4097#32).toNat = 4097 from rfl]
  omega

theorem idsArr_lt : (idsArr a b y).toNat < 32776 := by
  have h : ((ptAt y) 0).val < 8 := ((ptAt y) 0).isLt
  rw [idsArr_apply]
  have := pay14_lt (leftAt a b y) (rowOf y) (base (ptAt y)) (((ptAt y) 0).val * 4097) (base_toNat _).le (by omega)
  omega

end Arrays

theorem idRows_lt (a0 : Vec F S8x1024x8 .f32) (a1 : Vec F S8x4096x7 .f32) (x : S32x8x128.Idx) : (idRows a0 a1 x).toNat < 32776 := by
  unfold idRows shapeCast; exact idsArr_lt _ _ _

end Cert.Proof.KernelIdeal

end
-- ==== Proof.KernelIdeal.Main.lean ====
/-
  The program's run: @main on the TensorCore, from the launch to the three results, and with the tiles' runs the whole
  mesh's. Every fair execution ends with every semaphore at zero and every array of the TensorCore at its stated contents.
-/
module

public import proofs.«01_k».proof.Proof.KernelIdeal.Tile
public import proofs.«01_k».proof.Proof.KernelIdeal.Tc
public import proofs.«01_k».proof.Proof.KernelIdeal.Host
public import proofs.«01_k».proof.Proof.KernelIdeal.Range

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries -/

/-- The table, the row numbers and the old result on each device when the call starts. -/
abbrev tabAtCall (d : Dev nD) : Buf (Elt F) (tLoc d) := table (arg1 m d)
abbrev idsAtCall (d : Dev nD) : Buf (Elt F) (iLoc d) := idRows (arg0 m d) (arg1 m d)
abbrev outAtCall (d : Dev nD) : Buf (Elt F) (oLoc d) := W3 m d (Proc.devRef .tc main_v11)

abbrev Pm : (K (F := F)).Pay (nD := nD) (Val := Elt F) (Name := ℕ) (U := UU) := P (tabAtCall m) (idsAtCall m) (outAtCall m)

/-! ## The ghost state of the launch -/

/-- The pipeline's rounds on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes' rounds, the pipeline's, and no transfer. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  have hx : (bigSep Finset.univ fun thr : Thread nD τ => bigSep Finset.univ fun q : Fin 1 => (Pm (F := F) m).x q thr) = (iprop(emp) : sProp 𝕄) :=
    (bigSep_congr fun _ _ => bigSep_univ_of_subsingleton (0 : Fin 1)).trans (bigSep_emp_const _)
  have hG : iprop((bigSep Finset.univ fun d : Dev nD => bigSep Finset.univ fun p : Fin 1 => Pipeline.cellsGhost (Pipeline.pin (pcfgs (F := F)) adm) EP p d)
        ∗ (bigSep Finset.univ fun d : Dev nD => bigSep Finset.univ fun p : Fin 1 => Pipeline.toksInit (Pipeline.pin (pcfgs (F := F)) adm) EP p d))
      ⊢ (bigSep Finset.univ fun d : Dev nD => G (F := F) d : sProp 𝕄) := by
    unfold G
    rw [bigSep_sep', bigSep_congr (fun (d : Dev nD) _ => bigSep_univ_of_subsingleton (0 : Fin 1)),
      bigSep_congr (fun (d : Dev nD) _ => bigSep_univ_of_subsingleton (0 : Fin 1))]
  rw [hx]
  unfold u₀
  iintro Hu
  ihave H := (ownU_pair (initOf (K (F := F)).hsCells (K (F := F)).hsToks) _) $$ Hu
  icases H with ⟨HH, HP⟩
  ihave HP := (own_pair_emb embR (initOf (Pipeline.cells (Pipeline.pin (pcfgs (F := F)) adm) cellOf_inj)
    (Pipeline.launchToks (Pipeline.pin (pcfgs (F := F)) adm) cellOf_inj)) (1 : Counters)) $$ HP
  icases HP with ⟨HP, -⟩
  ihave HP := (Entails.of_eq (show BI.own (((Emb.inl : Emb UB (UB × Counters)).trans embR) (initOf (Pipeline.cells (Pipeline.pin (pcfgs (F := F)) adm) cellOf_inj)
      (Pipeline.launchToks (Pipeline.pin (pcfgs (F := F)) adm) cellOf_inj)))
    = (BI.own (EP (initOf (Pipeline.cells (Pipeline.pin (pcfgs (F := F)) adm) cellOf_inj)
      (Pipeline.launchToks (Pipeline.pin (pcfgs (F := F)) adm) cellOf_inj))) : sProp 𝕄) from by unfold EP; rfl)) $$ HP
  imod (Pipeline.fund_ghost (Pipeline.pin (pcfgs (F := F)) adm) EP cellOf_inj) $$ HP with HG
  imodintro
  isplitl [HH]; · iexact HH
  isplitl [HG]; · iapply hG; iexact HG
  iempintro

/-! ## @main -/

theorem tcSt_open (d : Dev nD) : ∃ R : sProp 𝕄, (K (F := F)).tcSt EH d 0
    = iprop((∃ w, ⌜(K (F := F)).WBelow (T d) w 0⌝ ∗ owes (T d) ((K (F := F)).Otc d 0) w) ∗ R) := ⟨_, rfl⟩

/-- What the TensorCore ends with: its arrays. -/
abbrev FIN (d : Dev nD) : sProp 𝕄 := StableHlo.held (T d) (Pipeline.ucRefs τ sig) (W5 m d)

/-- They are the unscoped buffers. -/
theorem held_bufs (W : Dev nD → Valuation τ sig (Elt F)) (d : Dev nD) :
    (StableHlo.held (T d) (Pipeline.ucRefs τ sig) (W d) : sProp 𝕄) = unscopedBufs d (fun b => W d (Proc.devRef .tc b)) :=
  (Pipeline.unscopedBufs_held d (W d)).symm

/-- The same at the launch. -/
theorem held_launch (d : Dev nD) : (unscopedBufs d (fun b => m ((SparseCore.T d).loc b)) : sProp 𝕄)
    = StableHlo.held (SparseCore.T d) (Pipeline.ucRefs τ sig) (fun b => m (d, b)) := (held_bufs (fun d b => m (d, b)) d).symm

/-- The call's three arrays, taken out of the TensorCore's. -/
def callRefs : Finset (DevRef τ sig) := {Proc.devRef .tc main_v10, Proc.devRef .tc main_v9, Proc.devRef .tc main_v11}

theorem callRefs_sub : callRefs ⊆ Pipeline.ucRefs τ sig := by
  intro b hb
  simp only [callRefs, Finset.mem_insert, Finset.mem_singleton] at hb
  rcases hb with rfl | rfl | rfl <;> exact Finset.mem_filter.2 ⟨StableHlo.devRef_mem_tcRefs _, by decide⟩

theorem held_call (d : Dev nD) (W : Valuation τ sig (Elt F)) : (StableHlo.held (T d) callRefs W : sProp 𝕄)
    = iprop((iLoc d ↦{fullShare} W (Proc.devRef .tc main_v10)) ∗ (tLoc d ↦{fullShare} W (Proc.devRef .tc main_v9))
        ∗ (oLoc d ↦{fullShare} W (Proc.devRef .tc main_v11))) := by
  unfold StableHlo.held callRefs
  rw [SparseCore.bigSep_insert' (by decide), SparseCore.bigSep_insert' (by decide), bigSep_singleton]

theorem held_rest (d : Dev nD) : (StableHlo.held (T d) (Pipeline.ucRefs τ sig \ callRefs) (W3 m d) : sProp 𝕄)
    = StableHlo.held (T d) (Pipeline.ucRefs τ sig \ callRefs) (W4 m d) :=
  StableHlo.held_congr _ fun b hb => by
    have h : b ≠ Proc.devRef .tc main_v11 := fun e => (Finset.mem_sdiff.1 hb).2 (by subst e; simp [callRefs])
    unfold W4; rw [Function.update_of_ne h]

theorem st_eq (d : Dev nD) : (bigSep Finset.univ fun c : Fin ((K (F := F)).nCore 0) => (Pm m).st 0 d c)
    = (StableHlo.held (T d) callRefs (W3 m d) : sProp 𝕄) := by
  rw [held_call, W3_v9, W3_v10]
  exact (bigSep_cores _).trans (corePts_all (tabAtCall m) (idsAtCall m) d (outAtCall m d))
theorem dn_eq (d : Dev nD) : (bigSep Finset.univ fun c : Fin ((K (F := F)).nCore 0) => (Pm m).dn 0 d c)
    = (StableHlo.held (T d) callRefs (W4 m d) : sProp 𝕄) := by
  rw [held_call, W4_ne m d main_v9 (by decide), W4_ne m d main_v10 (by decide), W3_v9, W3_v10, W4_v11]
  exact (bigSep_cores _).trans (corePts_all (tabAtCall m) (idsAtCall m) d (res (tabAtCall m) (idsAtCall m) d))

theorem tc_region (c : Dev nD) {α : Type} (k : PUnit → Prog (TpuEff nD τ sig (Elt F) (SparseCore.Sig (ΛP (F := F)) 1) .tc) α) (Q : α → sProp 𝕄) :
    iprop((iprop(boundary (c : Thread nD τ) ∗ stAt (fun c b => W2 m c (Proc.devRef .tc b)) c)
          -∗ wp frame (wpE ((K (F := F)).defs (D (F := F))) 𝒱 (T c) none) Set.univ (k ⟨⟩) Q)
        ∗ boundary (c : Thread nD τ) ∗ stAt (fun c b => W1 m c (Proc.devRef .tc b)) c ∗ levAts (K (F := F)).L (K (F := F)).lev ∗ G c)
      ⊢ wp frame (wpE ((K (F := F)).defs (D (F := F))) 𝒱 (T c) none) Set.univ (.op (.customCall (SparseCore.inner (Pipeline.entry 0)) ()) k) Q :=
  wp_region (fun c b => W1 m c (Proc.devRef .tc b)) (fun c b => W2 m c (Proc.devRef .tc b))
    (fun c => (W2_ids m c).trans (by rw [W1_v0, W1_v2]; rfl)) (fun c => (W2_mask m c).trans (by rw [W1_v0, W1_v2]; rfl))
    (fun c b h0 h1 => W2_ne m c b h0 h1) c k Q

/-- A stretch of host operations on device `d`'s TensorCore, under any continuation. -/
theorem wp_line (d : Dev nD) (ops : List (HloOp τ sig (Elt F))) (hs : ∀ op ∈ ops, op.bufs ⊆ Pipeline.ucRefs τ sig) (hf : ∀ op ∈ ops, op.fresh = ∅)
    (W : Valuation τ sig (Elt F)) {α : Type} (k : PUnit → Prog (TpuEff nD τ sig (Elt F) (SparseCore.Sig (ΛP (F := F)) 1) .tc) α) (Q : α → sProp 𝕄) :
    iprop(boundary (T d) ∗ StableHlo.held (T d) (Pipeline.ucRefs τ sig) W
        ∗ (iprop(boundary (T d) ∗ StableHlo.held (T d) (Pipeline.ucRefs τ sig) (StableHlo.after ops W))
          -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  have h := StableHlo.wp_seq (defs := (K (F := F)).defs (D (F := F))) 𝒱 none Set.univ d (Pipeline.ucRefs τ sig) k (K := Q) ops hs hf W
  iintro ⟨Hb, Hh, Hk⟩
  iapply h $$ [Hb Hh]
  · isplitl [Hb] <;> iassumption
  iexact Hk

/-- @main on device `d`'s TensorCore. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [main_eq, held_launch]
  iintro ⟨#Hctx, Hst, ⟨Hb, Hh, Hts, -⟩, HG⟩
  iapply (wp_line d opsBefore before_sub before_fresh (fun b => m (d, b)))
  isplitl [Hb]; · iexact Hb
  isplitl [Hh]; · iexact Hh
  iintro ⟨Hb, Hh⟩
  ihave Hst := (Entails.of_eq hR) $$ Hst
  icases Hst with ⟨HO, HR⟩
  iapply (tc_region m d _ _)
  isplitr [Hb Hh HO HG]
  · iintro ⟨Hb, Hs⟩
    ihave Hs := (Entails.of_eq (show stAt (fun c b => W2 m c (Proc.devRef .tc b)) d
      = iprop(StableHlo.held (T d) (Pipeline.ucRefs τ sig) (W2 m d)
          ∗ ∃ w, ⌜(K (F := F)).WBelow (T d) w 0⌝ ∗ owes (T d) ((K (F := F)).Otc d 0) w) from by rw [held_bufs])) $$ Hs
    icases Hs with ⟨Hh, HO⟩
    ihave Hst := (Entails.of_eq hR.symm) $$ [HO HR]
    · isplitl [HO] <;> iassumption
    iapply (wp_line d opsBetween between_sub between_fresh (W2 m d))
    isplitl [Hb]; · iexact Hb
    isplitl [Hh]; · iexact Hh
    iintro ⟨Hb, Hh⟩
    ihave Hh := (Entails.of_eq (show StableHlo.held (T d) (Pipeline.ucRefs τ sig) (StableHlo.after opsBetween (W2 m d))
      = (iprop(StableHlo.held (T d) callRefs (W3 m d) ∗ StableHlo.held (T d) (Pipeline.ucRefs τ sig \ callRefs) (W3 m d)) : sProp 𝕄) from
        StableHlo.held_sub_split _ callRefs_sub _)) $$ Hh
    icases Hh with ⟨Hc, Hrest⟩
    rw [wp_bind]
    iapply ((K (F := F)).wp_run (D (F := F)) 𝒱 (EH := EH) (P := Pm m) κ d 0) $$ [Hst Hc Hrest Hb Hts]
    isplitr; · iexact Hctx
    isplitl [Hst]; · iexact Hst
    isplitl [Hc]; · iapply (Entails.of_eq (st_eq m d).symm); iexact Hc
    iintro ⟨Hst, Hdn⟩
    ihave Hc := (Entails.of_eq (dn_eq m d)) $$ Hdn
    ihave Hrest := (Entails.of_eq (held_rest m d)) $$ Hrest
    ihave Hh := (Entails.of_eq (StableHlo.held_sub_split (T d) callRefs_sub (W4 m d)).symm) $$ [Hc Hrest]
    · isplitl [Hc] <;> iassumption
    rw [show (StableHlo.seq opsAfter : Prog (TpuEff nD τ sig (Elt F) (SparseCore.Sig (ΛP (F := F)) 1) .tc) PUnit)
      = (StableHlo.seq opsAfter >>= fun u => Pure.pure u) from (bind_pure _).symm]
    iapply (wp_line d opsAfter after_sub after_fresh (W4 m d))
    isplitl [Hb]; · iexact Hb
    isplitl [Hh]; · iexact Hh
    iintro ⟨Hb, Hh⟩
    rw [wp_pure]; imodintro
    isplitl [Hst]; · iexact Hst
    isplitl [Hh]; · iexact Hh
    isplitl [Hb] <;> iassumption
  isplitl [Hb]; · iexact Hb
  isplitl [Hh HO]
  · iapply (Entails.of_eq (show iprop(StableHlo.held (T d) (Pipeline.ucRefs τ sig) (W1 m d)
          ∗ ∃ w, ⌜(K (F := F)).WBelow (T d) w 0⌝ ∗ owes (T d) ((K (F := F)).Otc d 0) w) = stAt (fun c b => W1 m c (Proc.devRef .tc b)) d from by rw [held_bufs]))
    isplitl [Hh]; · iexact Hh
    iexact HO
  isplitr [HG]; · iapply (SparseCore.Cfg.ctx_levAts κ); iexact Hctx
  iexact HG

/-- What is read off the final memory: every array of the TensorCore. -/
def fq (d : Dev nD) (s' : Phys nD τ sig (Elt F)) : Prop :=
  ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The run -/

/-- The run's end: the three results, the arguments as they were, every semaphore zero. -/
def QC : PUnit × MemSt nD τ sig (Elt F) → Prop := fun r =>
  (∀ d : Dev nD, ∀ b ∈ Pipeline.ucRefs τ sig, r.2.mem (d, b) = W5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tabAtCall m) (idsAtCall m) (outAtCall m) fun d x => idRows_lt (arg0 m d) (arg1 m d) x)
    (fun q _ => match q with | 0 => SparseCore.Cfg.VecSplit.of_plain (vecSplit (tabAtCall m) (idsAtCall m) (outAtCall m)))
    m ρ main (fun d => G d) (FIN m) (u₀ (F := F)) (sep_elim_left.trans (hu₀ m)) (hmain m ρ) (fq m) (hfin m) (QC m) (fun _ h hz => ⟨h, hz⟩)

theorem mem_uc (b : Ref sig .tc) (h : b.isScoped = false) : Proc.devRef .tc b ∈ Pipeline.ucRefs τ sig :=
  Finset.mem_filter.2 ⟨StableHlo.devRef_mem_tcRefs b, by rw [show (Proc.devRef (τ := τ) .tc b).isScoped = b.isScoped from rfl, h]; decide⟩

/-- Every fair execution ends with the three results as stated, the arguments unchanged and every semaphore at zero. -/
theorem run [∀ e, Nonempty (Elt F e)] :
    θ_run (Cert.KernelIdeal.defs (F := F)) (Cert.KernelIdeal.threads (F := F)) ⟨m, fun _ => 0, ρ⟩ fun r =>
      (∀ d : Dev nD, r.2.mem ((d : Thread nD τ).loc main_v19) = out0 (arg0 m d) (arg1 m d) (arg2 m d)
        ∧ r.2.mem ((d : Thread nD τ).loc main_v16) = out1 (arg0 m d) (arg1 m d)
        ∧ r.2.mem ((d : Thread nD τ).loc main_v21) = out2 (arg0 m d) (arg1 m d)
        ∧ r.2.mem ((d : Thread nD τ).loc main_arg0) = arg0 m d
        ∧ r.2.mem ((d : Thread nD τ).loc main_arg1) = arg1 m d
        ∧ r.2.mem ((d : Thread nD τ).loc main_arg2) = arg2 m d)
      ∧ r.2.sem = fun _ => 0 :=
  (θ_run Cert.KernelIdeal.defs _ _).mono (fun _ h => ⟨fun d =>
    ⟨(h.1 d _ (mem_uc main_v19 (by decide))).trans (W5_v19 m d), (h.1 d _ (mem_uc main_v16 (by decide))).trans (W5_v16 m d),
      (h.1 d _ (mem_uc main_v21 (by decide))).trans (W5_v21 m d), (h.1 d _ (mem_uc main_arg0 (by decide))).trans (W5_arg0 m d),
      (h.1 d _ (mem_uc main_arg1 (by decide))).trans (W5_arg1 m d), (h.1 d _ (mem_uc main_arg2 (by decide))).trans (W5_arg2 m d)⟩, h.2⟩)
    (run_main m ρ)

end Cert.Proof.KernelIdeal

end
-- ==== Proof.Frames.lean ====
/-
  The frames: each program runs to its end, its arguments stay as they were, and every semaphore counter is zero again.
-/
module

public import proofs.«01_k».proof.Defs
public import proofs.«01_k».proof.Proof.Kernel.Main
public import proofs.«01_k».proof.Proof.KernelIdeal.Main
public import proofs.«01_k».proof.Proof.Gen.ReferenceIdeal.Run

@[expose] public section

noncomputable section

namespace Cert.Proof

open Idealize.ShloMosaic Idealize.SL.Sem

/-- The kernel, on words. -/
theorem frame_kernel : quiescent_Kernel (hKernel := Cert.Kernel.Gen.facts) := fun m g _ =>
  (θ_run _ _ _).mono (fun _ h => ⟨fun c => (h.1 c).2.2.2, h.2⟩) (Kernel.run (F := Bits) m g)

/-- The kernel, on extended reals. -/
theorem frame_kernelIdeal : quiescent_KernelIdeal (hKernelIdeal := Cert.KernelIdeal.Gen.facts) := fun m g _ =>
  (θ_run _ _ _).mono (fun _ h => ⟨fun c => (h.1 c).2.2.2, h.2⟩) (KernelIdeal.run (F := Ideal) m g)

/-- The reference has no semaphores. -/
instance : IsEmpty (GSem Cert.ReferenceIdeal.nD Cert.ReferenceIdeal.τ Cert.ReferenceIdeal.sig) :=
  ⟨fun s => match s.2 with | .reg i => i.elim0 | .dma i => i.elim0⟩

/-- The reference, on extended reals. -/
theorem frame_referenceIdeal : quiescent_ReferenceIdeal (hReferenceIdeal := Cert.ReferenceIdeal.Gen.facts) := fun m g _ =>
  (θ_run _ _ _).mono (fun _ h => ⟨fun c => (h c).2.2.2, Subsingleton.elim _ _⟩) (Cert.ReferenceIdeal.Value.run (F := Ideal) m g)

end Cert.Proof

end
-- ==== Proof.Nearest.lean ====
/-
  The nearest of finitely many distances, in order: a stable sort lists them, and taking the first least one out again and again
  lists them too, as long as they are below infinity.
-/
module

public import Idealize.ShloMosaic.Lib.SortFacts
public import Mathlib.Data.EReal.Basic

@[expose] public section

namespace Cert.Proof

open Idealize.ShloMosaic

variable {n : ℕ} (d : Fin n → EReal)

/-- `k` comes before `k'`: it is nearer, or as near with a smaller number. -/
def Before (k k' : Fin n) : Prop := d k < d k' ∨ (d k = d k' ∧ k < k')

theorem Before.trans {i j k : Fin n} (h : Before d i j) (h' : Before d j k) : Before d i k := by
  rcases h with h | ⟨h, l⟩ <;> rcases h' with h' | ⟨h', l'⟩
  · exact .inl (h.trans h')
  · exact .inl (h' ▸ h)
  · exact .inl (h ▸ h')
  · exact .inr ⟨h.trans h', l.trans l'⟩

section Order

variable (b : Fin n → Fin n → Bool) (hb : ∀ k k', b k k' = true ↔ d k < d k')
include hb

/-- Inserting a number smaller than all of a list in order keeps the order. -/
theorem before_insert (a : Fin n) (l : List (Fin n)) (hl : l.Pairwise (Before d)) (ha : ∀ c ∈ l, a < c) :
    (insertBefore b a l).Pairwise (Before d) := by
  induction l with
  | nil => exact List.pairwise_singleton _ _
  | cons c l ih =>
    rw [List.pairwise_cons] at hl
    unfold insertBefore
    split
    · rename_i h
      refine List.pairwise_cons.2 ⟨fun e he => ?_, ih hl.2 fun e he => ha e (List.mem_cons_of_mem _ he)⟩
      rcases List.mem_cons.1 ((perm_insertBefore b a l).mem_iff.1 he) with rfl | he'
      · exact .inl ((hb _ _).1 h)
      · exact hl.1 e he'
    · rename_i h
      have hac : Before d a c := by
        rcases lt_or_eq_of_le (not_lt.1 fun h' => h ((hb _ _).2 h')) with h' | h'
        · exact .inl h'
        · exact .inr ⟨h', ha c List.mem_cons_self⟩
      refine List.pairwise_cons.2 ⟨fun e he => ?_, List.pairwise_cons.2 hl⟩
      rcases List.mem_cons.1 he with rfl | he'
      · exact hac
      · exact hac.trans d (hl.1 e he')

theorem before_sort (l : List (Fin n)) (hl : l.Pairwise (· < ·)) : (stableSort b l).Pairwise (Before d) := by
  induction l with
  | nil => exact List.Pairwise.nil
  | cons a l ih =>
    rw [List.pairwise_cons] at hl
    unfold stableSort
    exact before_insert d b hb a _ (ih hl.2) fun c hc => hl.1 c ((perm_stableSort b l).mem_iff.1 hc)

/-- The stable sort by distance lists the numbers in order. -/
theorem sortedFrom_before {i j : Fin n} (h : i < j) : Before d (sortedFrom b i) (sortedFrom b j) := by
  have hp := List.pairwise_iff_get.1 (before_sort d b hb (List.finRange n) (List.pairwise_lt_finRange n))
  exact hp _ _ h

theorem sortedFrom_before_of_le {i j : Fin n} (h : i ≤ j) : d (sortedFrom b i) ≤ d (sortedFrom b j) := by
  rcases lt_or_eq_of_le h with h | rfl
  · rcases sortedFrom_before d b hb h with h' | ⟨h', _⟩
    · exact h'.le
    · exact h'.le
  · exact le_rfl

end Order

/-! ## Taking the nearest out -/

/-- The distances with the first `h` numbers of a list at infinity. -/
noncomputable def without (σ : Fin n → Fin n) (h : ℕ) (k : Fin n) : EReal := open Classical in if ∃ i : Fin n, i.val < h ∧ σ i = k then ⊤ else d k

theorem without_zero (σ : Fin n → Fin n) : without d σ 0 = d := by
  funext k; unfold without; rw [if_neg]; rintro ⟨i, hi, -⟩; exact absurd hi (Nat.not_lt_zero _)

section Out

variable (b : Fin n → Fin n → Bool) (hb : ∀ k k', b k k' = true ↔ d k < d k') (h : Fin n)
include hb

/-- With the first `h` out, the least distance is that of number `h` of the order … -/
theorem le_without (k : Fin n) : d (sortedFrom b h) ≤ without d (sortedFrom b) h k := by
  unfold without; split
  · exact le_top
  · rename_i hk
    obtain ⟨j, rfl⟩ := sortedFrom_surjective b k
    exact sortedFrom_before_of_le d b hb (not_lt.1 fun hj => hk ⟨j, hj, rfl⟩)
omit hb in
theorem without_self : without d (sortedFrom b) h (sortedFrom b h) = d (sortedFrom b h) := by
  unfold without; rw [if_neg]
  rintro ⟨i, hi, e⟩; exact absurd (congrArg Fin.val (sortedFrom_injective b e)) hi.ne
/-- … and the first number at that distance is that one, if the distance is below infinity. -/
theorem first_without (ht : d (sortedFrom b h) < ⊤) (k : Fin n) (hk : without d (sortedFrom b) h k = d (sortedFrom b h)) : sortedFrom b h ≤ k := by
  unfold without at hk; split at hk
  · exact absurd hk.symm ht.ne
  · rename_i hn
    obtain ⟨j, rfl⟩ := sortedFrom_surjective b k
    rcases lt_or_eq_of_le (not_lt.1 fun hj => hn ⟨j, hj, rfl⟩ : h ≤ j) with hj | rfl
    · rcases sortedFrom_before d b hb hj with h' | ⟨-, h'⟩
      · exact absurd hk h'.ne'
      · exact h'.le
    · exact le_rfl
/-- At infinity all that is left is there. -/
theorem without_top (ht : d (sortedFrom b h) = ⊤) (k : Fin n) : without d (sortedFrom b) h k = ⊤ :=
  top_unique (ht ▸ le_without d b hb h k)

/-- Taking out the one found: whichever number is taken, if the distance is infinite. -/
theorem without_succ (p : Fin n → Prop) [DecidablePred p] (hp : d (sortedFrom b h) < ⊤ → ∀ k, p k ↔ k = sortedFrom b h) (k : Fin n) :
    (if p k then ⊤ else without d (sortedFrom b) h k) = without d (sortedFrom b) (h.val + 1) k := by
  rcases eq_or_lt_of_le (le_top (a := d (sortedFrom b h))) with ht | ht
  · rw [without_top d b hb h ht, ite_self]
    have := without_top d b hb h ht k
    unfold without at this ⊢
    split
    · rfl
    · rename_i hk
      rw [if_neg fun ⟨i, hi, e⟩ => hk ⟨i, Nat.lt_succ_of_lt hi, e⟩] at this; exact this.symm
  · unfold without
    by_cases hk : k = sortedFrom b h
    · rw [if_pos ((hp ht k).2 hk), if_pos ⟨h, Nat.lt_succ_self _, hk.symm⟩]
    · rw [if_neg fun h' => hk ((hp ht k).1 h')]
      refine if_congr ⟨fun ⟨i, hi, e⟩ => ⟨i, Nat.lt_succ_of_lt hi, e⟩, fun ⟨i, hi, e⟩ => ⟨i, lt_of_le_of_ne (Nat.lt_succ_iff.1 hi) fun hv => hk ?_, e⟩⟩ rfl rfl
      rw [← e, Fin.ext hv]

end Out

end Cert.Proof

end
-- ==== Proof.Spec.lean ====
/-
  What both programs compute, over the extended reals: every track's four nearest detections, in order, those nearer than two,
  their boxes, and zeros for the others.
-/
module

public import proofs.«01_k».proof.Proof.Nearest
public import Idealize.ShloMosaic.PureOps.Ideal
public import Idealize.ShloMosaic.Lib.ValueIdx

@[expose] public section

noncomputable section

namespace Cert.Proof

open Idealize.ShloMosaic Idealize.ShloMosaic.ValueIdx

/-- Whether a distance is below two. -/
def within (v : EReal) : BitVec 1 := FloatOps.cmpf (F := Ideal) (φ := .f32) .olt v (Scalar.ofBits .f32 0x40000000#32)

theorem lt_top_of_within (v : EReal) (h : within v = 1#1) : v < ⊤ := by
  have e : within v = BitVec.ofBool (decide (v < (Scalar.ofBits .f32 0x40000000#32 : Ideal .f32))) := rfl
  by_contra hn
  rw [e, decide_eq_false fun hl => hn (lt_of_lt_of_le hl le_top)] at h
  exact absurd h (by decide)

/-- A sum of two squares under the root. -/
def root (x y : EReal) : EReal := Ideal.sqrt (x * x + y * y)

variable (a0 : (⟨3, ![8, 1024, 8]⟩ : Shape).Idx → EReal) (a1 : (⟨3, ![8, 4096, 7]⟩ : Shape).Idx → EReal)

section Track

variable (b : Fin 8) (t : Fin 1024)

/-- The distance of track `t` of batch `b` from detection `k`, by the first two coordinates. -/
def away (k : Fin 4096) : EReal := root (a0 (ix3 b t 0) - a1 (ix3 b k 0)) (a0 (ix3 b t 1) - a1 (ix3 b k 1))

/-- Which of two detections is nearer the track; the detections in order; the distance of the `h`-th. -/
def nearer (k k' : Fin 4096) : Bool := open Classical in decide (away a0 a1 b t k < away a0 a1 b t k')
theorem nearer_iff (k k' : Fin 4096) : nearer a0 a1 b t k k' = true ↔ away a0 a1 b t k < away a0 a1 b t k' := by unfold nearer; exact decide_eq_true_iff
def nth (h : Fin 4) : Fin 4096 := sortedFrom (nearer a0 a1 b t) ⟨h.val, h.isLt.trans (by decide)⟩
def nthAway (h : Fin 4) : EReal := away a0 a1 b t (nth a0 a1 b t h)

/-- The number of the `h`-th nearest detection, if it is near enough; 4096 if not. -/
def chosen (h : Fin 4) : BitVec 32 := Scalar.select (within (nthAway a0 a1 b t h)) (BitVec.ofNat 32 (nth a0 a1 b t h).val) 4096#32

theorem chosen_le (h : Fin 4) : (chosen a0 a1 b t h).toNat ≤ 4096 := by
  have := (nth a0 a1 b t h).isLt
  unfold chosen Scalar.select; split
  · rw [BitVec.toNat_ofNat]; omega
  · decide

end Track

/-- Detection `n` of batch `b` with a zero after its seven columns; zeros if there is no such detection. -/
def boxOf (b : Fin 8) (n : ℕ) (c : Fin 8) : EReal := if h : n < 4096 ∧ c.val < 7 then a1 (ix3 b ⟨n, h.1⟩ ⟨c.val, h.2⟩) else 0

/-- The candidates of a track: its own row, then its four boxes. -/
def candidates (b : Fin 8) (t : Fin 1024) (h : Fin 5) (c : Fin 8) : EReal :=
  if e : h.val = 0 then a0 (ix3 b t c) else boxOf a1 b (chosen a0 a1 b t ⟨h.val - 1, by have := h.isLt; omega⟩).toNat c

/-- The candidates, followed by the ten steps of the trajectory, each for every candidate. -/
def hypotheses (a2 : (⟨4, ![8, 10, 1024, 8]⟩ : Shape).Idx → EReal) (b : Fin 8) (l : Fin 11) (t : Fin 1024) (h : Fin 5) (c : Fin 8) : EReal :=
  if e : l.val = 0 then candidates a0 a1 b t h c else a2 (ix4 b ⟨l.val - 1, by have := l.isLt; omega⟩ t c)

/-- The marks. -/
def marks (b : Fin 8) (t : Fin 1024) (h : Fin 4) : BitVec 1 := within (nthAway a0 a1 b t h)

end Cert.Proof

end
-- ==== Proof.KernelIdeal.Order.lean ====
/-
  The rounds over the extended reals: round `n` finds number `n` of the order of the distances, or, at infinite distance, none.
-/
module

public import proofs.«01_k».proof.Proof.KernelIdeal.Rounds
public import proofs.«01_k».proof.Proof.Spec
public import Idealize.ShloMosaic.PureOps.Ideal
public import Idealize.ShloMosaic.PureOps.Ideal.Laws
public import Idealize.ShloMosaic.Lib.WordCmp

@[expose] public section

noncomputable section

namespace Cert.Proof.KernelIdeal

open Cert.KernelIdeal Cert.KernelIdeal.Gen
open Idealize.ShloMosaic Idealize.ShloMosaic.ValueIdx

/-- The constant the least is taken from, and the taken ones are set to, is infinity. -/
theorem ofBits_inf : (Scalar.ofBits .f32 0x7F800000#32 : Ideal .f32) = (⊤ : EReal) := by
  show Ideal.ofBits .f32 0x7F800000#32 = ⊤
  simp [Ideal.ofBits, Ideal.ieee]

section Round

variable (x : FVec Ideal S256x4096 .f32) (r : Fin 256)

theorem least_eq : least x r = Finset.univ.fold min (⊤ : EReal) fun k : Fin 4096 => x (ix2 r k) := by
  unfold least k0_pay11
  classical
  refine (shapeCast_a_a1_apply _ _ r 0).trans ((multiReduction_minimumf_eq_fold _ _ _ _ _ _).trans
    ((Shape.Reduces.fold_filter_drop_single (s := S256x4096) (a := 1) (t := S256) reduces_S256x4096_S256 _ _ _ (ix1 r)).trans ?_))
  have hb : (FloatOps.ofBits .f32 0x7F800000#32 : Ideal .f32) = (⊤ : EReal) := ofBits_inf
  rw [hb]
  exact Finset.fold_congr fun k _ => congrArg x (lift_eq r k)

/-- A bound that is reached is the least. -/
theorem least_eq_of (v : EReal) (h : ∀ k, v ≤ x (ix2 r k)) (k : Fin 4096) (hk : x (ix2 r k) = v) : least x r = v := by
  rw [least_eq]
  refine le_antisymm ((Finset.fold_min_le _).2 (.inr ⟨k, Finset.mem_univ _, hk.le⟩)) ((Finset.le_fold_min _).2 ⟨le_top, fun k _ => h k⟩)

theorem hit_eq (k : Fin 4096) : hit x r k = BitVec.ofBool (decide (x (ix2 r k) = least x r)) := rfl

theorem hit_iff (k : Fin 4096) : hit x r k = 1#1 ↔ x (ix2 r k) = least x r := by
  rw [hit_eq]; by_cases h : x (ix2 r k) = least x r <;> simp [h]

/-- The first number at the least distance is the one found. -/
theorem near_eq_of (k : Fin 4096) (hk : x (ix2 r k) = least x r) (h : ∀ k', x (ix2 r k') = least x r → k ≤ k') : near x r = BitVec.ofNat 32 k.val := by
  rw [near_eq]
  rcases fold_minsi_first (by decide) (by decide) (hit x r) with ⟨j, hj, hmin, e⟩ | ⟨hno, -⟩
  · rw [e, le_antisymm (hmin k ((hit_iff x r k).2 hk)) (h j ((hit_iff x r j).1 hj))]
  · exact absurd ((hit_iff x r k).2 hk) (hno k)

theorem taken_iff (k k' : Fin 4096) : IntOp.cmpi .eq (BitVec.ofNat 32 k.val) (BitVec.ofNat 32 k'.val) = 1#1 ↔ k = k' := by
  have h1 := k.isLt; have h2 := k'.isLt
  constructor
  · intro h
    have : BitVec.ofNat 32 k.val = BitVec.ofNat 32 k'.val := by
      by_contra hn
      unfold IntOp.cmpi at h
      rw [show (BitVec.ofNat 32 k.val == BitVec.ofNat 32 k'.val) = false from beq_eq_false_iff_ne.2 hn] at h
      exact absurd (show BitVec.ofBool false = 1#1 from h) (by decide)
    have := congrArg BitVec.toNat this
    rw [BitVec.toNat_ofNat, BitVec.toNat_ofNat] at this
    exact Fin.ext (by omega)
  · rintro rfl; simp [IntOp.cmpi]

end Round

section Rounds

variable (d : Fin 4096 → EReal) (b : Fin 4096 → Fin 4096 → Bool) (hb : ∀ k k', b k k' = true ↔ d k < d k')
variable (x : FVec Ideal S256x4096 .f32) (r : Fin 256)
include hb

/-- The least of what is left after the first `h` is the distance of number `h` of the order. -/
theorem least_without (h : Fin 4096) (hx : ∀ k, x (ix2 r k) = without d (sortedFrom b) h k) : least x r = d (sortedFrom b h) :=
  least_eq_of x r _ (fun k => (le_without d b hb h k).trans_eq (hx k).symm) (sortedFrom b h) ((hx _).trans (without_self d b h))

theorem near_without (h : Fin 4096) (hx : ∀ k, x (ix2 r k) = without d (sortedFrom b) h k) (ht : d (sortedFrom b h) < ⊤) :
    near x r = BitVec.ofNat 32 (sortedFrom b h).val := by
  have hl := least_without d b hb x r h hx
  refine near_eq_of x r _ ?_ fun k' hk' => ?_
  · rw [hx, hl]; exact without_self d b h
  · rw [hx, hl] at hk'; exact first_without d b hb h ht k' hk'

theorem round_without (h : Fin 4096) (hx : ∀ k, x (ix2 r k) = without d (sortedFrom b) h k) (k : Fin 4096) :
    k0_pay16 cols x (ix2 r k) = without d (sortedFrom b) (h.val + 1) k := by
  rw [pay16_apply, ← without_succ d b hb h (fun k => IntOp.cmpi .eq (BitVec.ofNat 32 k.val) (near x r) = 1#1) (fun ht k => by
    rw [near_without d b hb x r h hx ht]; exact taken_iff _ _), hx, ofBits_inf]
  rfl

/-- What is left after `n` rounds is the distances without the first `n` of the order. -/
theorem left_without (hx : ∀ k, x (ix2 r k) = d k) (n : ℕ) (hn : n ≤ 4096) (k : Fin 4096) : left x n (ix2 r k) = without d (sortedFrom b) n k := by
  induction n generalizing k with
  | zero => rw [without_zero]; exact hx k
  | succ n ih => exact round_without d b hb (left x n) r ⟨n, hn⟩ (ih (Nat.le_of_succ_le hn)) k

/-- Round `h` marks whether number `h` of the order is nearer than two, … -/
theorem close_left (hx : ∀ k, x (ix2 r k) = d k) (h : Fin 4096) :
    close (left x h) r = within (d (sortedFrom b h)) := by
  unfold close; rw [least_without d b hb _ r h (left_without d b hb x r hx h h.isLt.le)]; rfl

/-- … and its number is that one's if so, 4096 if not. -/
theorem chosen_left (hx : ∀ k, x (ix2 r k) = d k) (h : Fin 4096) :
    Scalar.select (close (left x h) r) (near (left x h) r) 4096#32 = Scalar.select (within (d (sortedFrom b h))) (BitVec.ofNat 32 (sortedFrom b h).val) 4096#32 := by
  rw [close_left d b hb x r hx h]
  by_cases hc : within (d (sortedFrom b h)) = 1#1
  · rw [near_without d b hb _ r h (left_without d b hb x r hx h h.isLt.le) (lt_top_of_within _ hc)]
  · exact (if_neg hc).trans (if_neg hc).symm

end Rounds

end Cert.Proof.KernelIdeal

end
-- ==== Proof.KernelIdeal.Numbers.lean ====
/-
  The row numbers and the marks over the extended reals, read at an entry of the arguments.
-/
module

public import proofs.«01_k».proof.Proof.KernelIdeal.Order
public import proofs.«01_k».proof.Proof.KernelIdeal.Range
public import Idealize.ShloMosaic.Lib.ValueLayout

@[expose] public section

noncomputable section

namespace Cert.Proof.KernelIdeal

open Cert.KernelIdeal Cert.KernelIdeal.Gen
open Idealize.ShloMosaic Idealize.ShloMosaic.ValueIdx

section Block

variable (X : Vec Ideal S1x256x2 .f32) (Y : Vec Ideal S1x2x4096 .f32) (r : Fin 256) (k : Fin 4096)

theorem trkX_apply : trkX X (ix3 (0 : Fin 1) r (0 : Fin 1)) = X (ix3 (0 : Fin 1) r (0 : Fin 2)) := by
  refine congrArg X (funext fun a => Fin.ext ?_)
  match a with | ⟨0, _⟩ => rfl | ⟨1, _⟩ => exact (Nat.zero_add _).trans (Nat.one_mul _) | ⟨2, _⟩ => rfl
theorem trkY_apply : trkY X (ix3 (0 : Fin 1) r (0 : Fin 1)) = X (ix3 (0 : Fin 1) r (1 : Fin 2)) := by
  refine congrArg X (funext fun a => Fin.ext ?_)
  match a with | ⟨0, _⟩ => rfl | ⟨1, _⟩ => exact (Nat.zero_add _).trans (Nat.one_mul _) | ⟨2, _⟩ => rfl
theorem detX_apply : detX Y (ix3 (0 : Fin 1) (0 : Fin 1) k) = Y (ix3 (0 : Fin 1) (0 : Fin 2) k) := by
  refine congrArg Y (funext fun a => Fin.ext ?_)
  match a with | ⟨0, _⟩ => rfl | ⟨1, _⟩ => rfl | ⟨2, _⟩ => exact (Nat.zero_add _).trans (Nat.one_mul _)
theorem detY_apply : detY Y (ix3 (0 : Fin 1) (0 : Fin 1) k) = Y (ix3 (0 : Fin 1) (1 : Fin 2) k) := by
  refine congrArg Y (funext fun a => Fin.ext ?_)
  match a with | ⟨0, _⟩ => rfl | ⟨1, _⟩ => rfl | ⟨2, _⟩ => exact (Nat.zero_add _).trans (Nat.one_mul _)

/-- A column spread over the columns, and a row over the rows. -/
theorem column_apply (v : Vec Ideal S1x256x1 .f32) :
    broadcastTo S256x4096 (shapeCast S256x1 v shapeCasts_S1x256x1_S256x1) broadcasts_S256x1_S256x4096 (ix2 r k) = v (ix3 (0 : Fin 1) r (0 : Fin 1)) :=
  (spread_apply r _ k).trans (shapeCast_1ab_ab_apply _ _ r 0)
theorem row_apply (v : Vec Ideal S1x1x4096 .f32) :
    broadcastTo S256x4096 (shapeCast S1x4096 v shapeCasts_S1x1x4096_S1x4096) broadcasts_S1x4096_S256x4096 (ix2 r k) = v (ix3 (0 : Fin 1) (0 : Fin 1) k) :=
  (broadcastTo_1b_ab_apply _ _ r k).trans (shapeCast_1ab_ab_apply _ _ 0 k)

theorem dists_apply : dists X Y (ix2 r k)
    = root (X (ix3 (0 : Fin 1) r (0 : Fin 2)) - Y (ix3 (0 : Fin 1) (0 : Fin 2) k)) (X (ix3 (0 : Fin 1) r (1 : Fin 2)) - Y (ix3 (0 : Fin 1) (1 : Fin 2) k)) := by
  rw [← trkX_apply X r, ← trkY_apply X r, ← detX_apply Y k, ← detY_apply Y k, ← column_apply r k (trkX X), ← column_apply r k (trkY X), ← row_apply r k (detX Y), ← row_apply r k (detY Y)]
  rfl

end Block

section Arrays

variable (a0 : Vec Ideal S8x1024x8 .f32) (a1 : Vec Ideal S8x4096x7 .f32)

theorem trkCols_apply (b : Fin 8) (t : Fin 1024) (c : Fin 2) : trkCols a0 (ix3 b t c) = a0 (ix3 b t (c.castLE (by decide))) := by
  refine congrArg a0 (funext fun a => Fin.ext ?_)
  match a with | ⟨0, _⟩ => exact Nat.zero_add _ | ⟨1, _⟩ => exact Nat.zero_add _ | ⟨2, _⟩ => exact Nat.zero_add _
theorem detCols_apply (b : Fin 8) (k : Fin 4096) (c : Fin 2) : detCols a1 (ix3 b c k) = a1 (ix3 b k (c.castLE (by decide))) := by
  refine (transpose_ix3_021_apply _ _ b c k).trans (congrArg a1 (funext fun a => Fin.ext ?_))
  match a with | ⟨0, _⟩ => exact Nat.zero_add _ | ⟨1, _⟩ => exact Nat.zero_add _ | ⟨2, _⟩ => exact Nat.zero_add _

variable (b : Fin 8) (t : Fin 1024) (h : Fin 4)

/-- The block an entry belongs to holds its track's row, and its batch's detections. -/
theorem trkBlk_apply (A : Vec Ideal S8x1024x2 .f32) (c : Fin 2) :
    trkBlk A (ptAt (ix3 b t h)) (ix3 (0 : Fin 1) (rowOf (ix3 b t h)) c) = A (ix3 b t c) := by
  refine congrArg A (funext fun a => Fin.ext ?_)
  match a with | ⟨0, _⟩ => rfl | ⟨1, _⟩ => exact Nat.div_add_mod' t.val 256 | ⟨2, _⟩ => rfl
theorem detBlk_apply (B : Vec Ideal S8x2x4096 .f32) (c : Fin 2) (k : Fin 4096) :
    detBlk B (ptAt (ix3 b t h)) (ix3 (0 : Fin 1) c k) = B (ix3 b c k) := by
  refine congrArg B (funext fun a => Fin.ext ?_)
  match a with | ⟨0, _⟩ => rfl | ⟨1, _⟩ => rfl | ⟨2, _⟩ => rfl

theorem dists_away (k : Fin 4096) :
    dists (trkBlk (trkCols a0) (ptAt (ix3 b t h))) (detBlk (detCols a1) (ptAt (ix3 b t h))) (ix2 (rowOf (ix3 b t h)) k) = away a0 a1 b t k := by
  rw [dists_apply, trkBlk_apply, trkBlk_apply, detBlk_apply, detBlk_apply, trkCols_apply, trkCols_apply, detCols_apply, detCols_apply]
  rfl

/-- An entry of the row numbers: the chosen detection's row in its batch's part of the table. -/
theorem idsOf_apply : (idsOf a0 a1 (ix3 b t h)).toNat = b.val * 4097 + (chosen a0 a1 b t h).toNat := by
  unfold idsOf
  rw [idsArr_apply, pay14_apply]
  unfold leftAt
  rw [show (roundOf (ix3 b t h)).val = (⟨h.val, h.isLt.trans (by decide)⟩ : Fin 4096).val from rfl,
    chosen_left (away a0 a1 b t) (nearer a0 a1 b t) (nearer_iff a0 a1 b t) _ (rowOf (ix3 b t h)) (dists_away a0 a1 b t h) ⟨h.val, h.isLt.trans (by decide)⟩]
  show (base (ptAt (ix3 b t h)) + chosen a0 a1 b t h).toNat = _
  have h1 : (base (ptAt (ix3 b t h))).toNat = b.val * 4097 := base_toNat _
  have h2 := chosen_le a0 a1 b t h
  have h3 := b.isLt
  rw [BitVec.toNat_add, h1]; omega

/-- An entry of the marks: whether the detection is near enough. -/
theorem maskOf_apply : maskOf a0 a1 (ix3 b t h) = (marks a0 a1 b t h).setWidth 32 := by
  unfold maskOf
  rw [maskArr_apply, pay15_apply]
  unfold leftAt
  rw [show (roundOf (ix3 b t h)).val = (⟨h.val, h.isLt.trans (by decide)⟩ : Fin 4096).val from rfl,
    close_left (away a0 a1 b t) (nearer a0 a1 b t) (nearer_iff a0 a1 b t) _ (rowOf (ix3 b t h)) (dists_away a0 a1 b t h) ⟨h.val, h.isLt.trans (by decide)⟩]
  rfl

/-- The third result. -/
theorem out2_apply : out2 a0 a1 (ix3 b t h) = marks a0 a1 b t h := by
  show IntOp.cmpi .ne (maskOf a0 a1 (ix3 b t h)) 0#32 = _
  rw [maskOf_apply]
  generalize marks a0 a1 b t h = v
  revert v; decide

end Arrays

end Cert.Proof.KernelIdeal

end
-- ==== Proof.KernelIdeal.Table.lean ====
/-
  The table of padded rows, the rows fetched from it, and the first two results, over the extended reals.
-/
module

public import proofs.«01_k».proof.Proof.KernelIdeal.Numbers
public import Idealize.ShloMosaic.Lib.Routing.OpsSet
public import Idealize.ShloMosaic.Lib.IdealHost

@[expose] public section

noncomputable section

namespace Cert.Proof.KernelIdeal

open Cert.KernelIdeal Cert.KernelIdeal.Gen
open Idealize.ShloMosaic Idealize.ShloMosaic.ValueIdx

/-- The two starts of the write are zero. -/
abbrev starts : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

theorem starts_apply (j : S2.Idx) : starts j = 0#32 := by
  match e : j 0 with
  | ⟨0, _⟩ => exact concatenate_pair_apply_left (t := S2) (s₁ := S1) (s₂ := S1) 0 _ _ _ j rfl (ix1 (0 : Fin 1)) fun b =>
      match b with | ⟨0, _⟩ => (congrArg Fin.val e).symm
  | ⟨1, _⟩ => exact concatenate_pair_apply_right (t := S2) (s₁ := S1) (s₂ := S1) 0 _ _ _ j rfl rfl (ix1 (0 : Fin 1)) (fun b hb =>
      match b, hb with | ⟨0, _⟩, hb => absurd rfl hb) (congrArg Fin.val e).symm

/-- Update `k` lands where its coordinates say. -/
theorem lands (k : S8x4096x7.Idx) (ι : S8x4097x16.Idx) : scatter_S8x4097x16_S2_S8x4096x7_012_n_12_0.resultIdx? k starts = some ι ↔
    (k 0).val = (ι 0).val ∧ (k 1).val = (ι 1).val ∧ (k 2).val = (ι 2).val := by
  have hs : ∀ a, scatter_S8x4097x16_S2_S8x4096x7_012_n_12_0.start k starts a = 0 := fun a => by
    unfold ScatterDims.start; split
    · rw [starts_apply]; rfl
    · rfl
  rw [Routing.resultIdx?_eq_some]
  constructor
  · intro h
    have h0 := h 0; have h1 := h 1; have h2 := h 2
    rw [hs, Int.zero_add] at h0 h1 h2
    exact ⟨Int.ofNat.inj h0, Int.ofNat.inj h1, Int.ofNat.inj h2⟩
  · rintro ⟨h0, h1, h2⟩ a
    rw [hs, Int.zero_add]
    match a with
    | ⟨0, _⟩ => exact congrArg Int.ofNat h0
    | ⟨1, _⟩ => exact congrArg Int.ofNat h1
    | ⟨2, _⟩ => exact congrArg Int.ofNat h2

variable (a0 : Vec Ideal S8x1024x8 .f32) (a1 : Vec Ideal S8x4096x7 .f32) (a2 : Vec Ideal S8x10x1024x8 .f32)

/-- A padded row's first eight columns are the detection's box, zeros after the last detection. -/
theorem padded_apply (b : Fin 8) (n : Fin 4097) (c : Fin 8) : padded a1 (ix3 b n (c.castLE (by decide))) = boxOf a1 b n c := by
  unfold padded boxOf
  split
  · rename_i h
    refine Routing.scatter_set_hit _ _ starts a1 _ _ (fun k hk => congrArg a1 ?_) (ix3 b ⟨n, h.1⟩ ⟨c, h.2⟩) ((lands _ _).2 ⟨rfl, rfl, rfl⟩)
    obtain ⟨h0, h1, h2⟩ := (lands _ _).1 hk
    funext a; apply Fin.ext
    match a with | ⟨0, _⟩ => exact h0 | ⟨1, _⟩ => exact h1 | ⟨2, _⟩ => exact h2
  · rename_i h
    refine (Routing.scatter_set_miss _ _ starts a1 _ fun k hk => h ?_).trans Ideal.ofBits_zero_f32
    obtain ⟨-, h1, h2⟩ := (lands _ _).1 hk
    exact ⟨lt_of_eq_of_lt h1.symm (k 1).isLt, lt_of_eq_of_lt h2.symm (k 2).isLt⟩

/-- Row `b * 4097 + n` of the table is row `n` of batch `b`. -/
theorem table_apply (b : Fin 8) (n : Fin 4097) (k : Fin 16) (r : Fin 32776) (hr : r.val = b.val * 4097 + n.val) :
    table a1 (ix2 r k) = padded a1 (ix3 b n k) :=
  shapeCast_apply _ _ _ _ (by
    rw [Shape.rowMajor_val_three, Shape.rowMajor_val_two]
    show (b.val * 4097 + n.val) * 16 + k.val = r.val * 16 + k.val
    rw [hr])

/-- The row numbers in the order the SparseCores take them. -/
theorem idRows_apply (b : Fin 8) (t : Fin 1024) (h : Fin 4) (c : Fin 16) (r : Fin 32768) (hr : r.val = (b.val * 1024 + t.val) * 4 + h.val) :
    idRows a0 a1 (idAt (ix2 r c)) = idsOf a0 a1 (ix3 b t h) :=
  shapeCast_apply _ _ _ _ (by
    rw [Shape.rowMajor_val_three, Shape.rowMajor_val_three]
    show (b.val * 1024 + t.val) * 4 + h.val = (r.val / 1024 * 8 + r.val % 1024 / 128) * 128 + r.val % 128
    omega)

/-- The fetched row of a track and a round holds the chosen box. -/
theorem fetched_apply (b : Fin 8) (t : Fin 1024) (h : Fin 4) (c : Fin 8) (r : Fin 32768) (hr : r.val = (b.val * 1024 + t.val) * 4 + h.val) :
    fetched a0 a1 (ix2 r (c.castLE (by decide))) = boxOf a1 b (chosen a0 a1 b t h).toNat c := by
  have h2 := chosen_le a0 a1 b t h
  have h3 := b.isLt
  unfold fetched gathered
  rw [idRows_apply a0 a1 b t h _ r hr, idsOf_apply]
  refine Eq.trans ?_ (padded_apply a1 b ⟨(chosen a0 a1 b t h).toNat, by omega⟩ c)
  refine Eq.trans (congrArg (table a1) (a₂ := ix2 ⟨b.val * 4097 + (chosen a0 a1 b t h).toNat, by omega⟩ (c.castLE (by decide))) ?_) (table_apply a1 b _ _ ⟨b.val * 4097 + (chosen a0 a1 b t h).toNat, by omega⟩ rfl)
  funext a; apply Fin.ext
  match a with
  | ⟨0, _⟩ => exact Nat.mod_eq_of_lt (by omega)
  | ⟨1, _⟩ => rfl

/-- The four boxes of a track. -/
theorem boxes_apply (b : Fin 8) (t : Fin 1024) (h : Fin 4) (c : Fin 8) :
    extractStridedSlice S8x1024x4x8 ![0, 0, 0, 0] (shapeCast S8x1024x4x16 (fetched a0 a1) shapeCasts_S32768x16_S8x1024x4x16)
      slices_S8x1024x4x16_S8x1024x4x8_0_0_0_0 (ix4 b t h c) = boxOf a1 b (chosen a0 a1 b t h).toNat c := by
  have h1 := b.isLt; have h2 := t.isLt; have h3 := h.isLt
  rw [← fetched_apply a0 a1 b t h c ⟨(b.val * 1024 + t.val) * 4 + h.val, by omega⟩ rfl]
  refine shapeCast_apply _ _ _ _ ?_
  rw [Shape.rowMajor_val_two, Shape.rowMajor_val_four]
  show ((b.val * 1024 + t.val) * 4 + h.val) * 16 + c.val = (((0 + b.val) * 1024 + (0 + t.val)) * 4 + (0 + h.val)) * 16 + (0 + c.val)
  omega

/-- The second result. -/
theorem out1_apply (b : Fin 8) (z : Fin 1) (t : Fin 1024) (h : Fin 5) (c : Fin 8) : out1 a0 a1 (ix5 b z t h c) = candidates a0 a1 b t h c := by
  unfold out1
  rw [broadcastInDim_apply _ _ _ _ (ix4 b t h c) fun a => by match a with | ⟨0, _⟩ => rfl | ⟨1, _⟩ => rfl | ⟨2, _⟩ => rfl | ⟨3, _⟩ => rfl]
  unfold candidates
  split
  · rename_i e
    refine (concatenate_pair_apply_left (t := S8x1024x5x8) (s₁ := S8x1024x1x8) (s₂ := S8x1024x4x8) 2 _ _ _ (ix4 b t h c) rfl (ix4 b t (0 : Fin 1) c) fun a => by
      match a with | ⟨0, _⟩ => rfl | ⟨1, _⟩ => rfl | ⟨2, _⟩ => exact e.symm | ⟨3, _⟩ => rfl).trans ?_
    exact broadcastInDim_apply _ _ _ _ _ fun a => by match a with | ⟨0, _⟩ => rfl | ⟨1, _⟩ => rfl | ⟨2, _⟩ => rfl
  · rename_i e
    have := h.isLt
    refine (concatenate_pair_apply_right (t := S8x1024x5x8) (s₁ := S8x1024x1x8) (s₂ := S8x1024x4x8) 2 _ _ _ (ix4 b t h c) rfl rfl
      (ix4 b t (⟨h.val - 1, by omega⟩ : Fin 4) c) (fun a ha => by
        match a with | ⟨0, _⟩ => rfl | ⟨1, _⟩ => rfl | ⟨2, _⟩ => exact absurd rfl ha | ⟨3, _⟩ => rfl) (Nat.sub_add_cancel (Nat.one_le_iff_ne_zero.2 e))).trans ?_
    exact boxes_apply a0 a1 b t _ c

/-- The first result. -/
theorem out0_apply (b : Fin 8) (l : Fin 11) (t : Fin 1024) (h : Fin 5) (c : Fin 8) : out0 a0 a1 a2 (ix5 b l t h c) = hypotheses a0 a1 a2 b l t h c := by
  unfold out0 hypotheses
  split
  · rename_i e
    exact (concatenate_pair_apply_left (t := S8x11x1024x5x8) (s₁ := S8x1x1024x5x8) (s₂ := S8x10x1024x5x8) 1 _ _ _ (ix5 b l t h c) rfl (ix5 b (0 : Fin 1) t h c) fun a =>
      match a with | ⟨0, _⟩ => rfl | ⟨1, _⟩ => e.symm | ⟨2, _⟩ => rfl | ⟨3, _⟩ => rfl | ⟨4, _⟩ => rfl).trans (out1_apply a0 a1 b 0 t h c)
  · rename_i e
    have := l.isLt
    refine (concatenate_pair_apply_right (t := S8x11x1024x5x8) (s₁ := S8x1x1024x5x8) (s₂ := S8x10x1024x5x8) 1 _ _ _ (ix5 b l t h c) rfl rfl
      (ix5 b (⟨l.val - 1, by omega⟩ : Fin 10) t h c) (fun a ha =>
        match a, ha with | ⟨0, _⟩, _ => rfl | ⟨1, _⟩, ha => absurd rfl ha | ⟨2, _⟩, _ => rfl | ⟨3, _⟩, _ => rfl | ⟨4, _⟩, _ => rfl)
      (Nat.sub_add_cancel (Nat.one_le_iff_ne_zero.2 e))).trans ?_
    refine (broadcastInDim_apply _ _ _ _ (ix5 b (⟨l.val - 1, by omega⟩ : Fin 10) t (0 : Fin 1) c) fun a =>
      match a with | ⟨0, _⟩ => rfl | ⟨1, _⟩ => rfl | ⟨2, _⟩ => rfl | ⟨3, _⟩ => rfl | ⟨4, _⟩ => rfl).trans ?_
    exact broadcastInDim_apply _ _ _ _ _ fun a => match a with | ⟨0, _⟩ => rfl | ⟨1, _⟩ => rfl | ⟨2, _⟩ => rfl | ⟨3, _⟩ => rfl

end Cert.Proof.KernelIdeal

end
-- ==== Proof.ReferenceIdeal.Nearest.lean ====
/-
  The reference's distances, its four nearest detections and its marks, over the extended reals.
-/
module

public import proofs.«01_k».proof.Proof.Gen.ReferenceIdeal
public import proofs.«01_k».proof.Proof.Spec
public import Idealize.ShloMosaic.PureOps.Ideal.Laws
public import Idealize.ShloMosaic.Lib.IdealHost
public import Idealize.ShloMosaic.Lib.Pipeline.Value

@[expose] public section

noncomputable section

namespace Cert.Proof.ReferenceIdeal

open Cert.ReferenceIdeal Cert.ReferenceIdeal.Gen
open Idealize.ShloMosaic Idealize.ShloMosaic.ValueIdx

variable (a0 : FVec Ideal S8x1024x8 .f32) (a1 : FVec Ideal S8x4096x7 .f32)

/-- The differences of every track's and every detection's first two coordinates, -/
def diffs : FVec Ideal S8x1024x4096x2 .f32 :=
  subf (broadcastInDim S8x1024x4096x2 ![0, 1, 2, 3] bcast_S8x1024x1x2_S8x1024x4096x2_0_1_2_3 (broadcastInDim S8x1024x1x2 ![0, 1, 3] bcast_S8x1024x2_S8x1024x1x2_0_1_3
      (extractStridedSlice S8x1024x2 ![0, 0, 0] a0 slices_S8x1024x8_S8x1024x2_0_0_0)))
    (broadcastInDim S8x1024x4096x2 ![0, 1, 2, 3] bcast_S8x1x4096x2_S8x1024x4096x2_0_1_2_3 (broadcastInDim S8x1x4096x2 ![0, 2, 3] bcast_S8x4096x2_S8x1x4096x2_0_2_3
      (extractStridedSlice S8x4096x2 ![0, 0, 0] a1 slices_S8x4096x7_S8x4096x2_0_0_0)))
/-- the distances, negated, -/
def farness : FVec Ideal S8x1024x4096 .f32 :=
  Host.negf (Host.sqrt (maximumf (Host.reduceAdd (mulf (diffs a0 a1) (diffs a0 a1)) (constant S_ .f32 0x00000000#32) reducesTo_S8x1024x4096x2_S8x1024x4096_d3 h_S_)
    (broadcastInDim S8x1024x4096 ![] bcast_S_S8x1024x4096 (constant S_ .f32 0x00000000#32))))
/-- the four greatest of those for every track, with their numbers, -/
def top : FVec Ideal S8x1024x4 .f32 × IVec S8x1024x4 32 :=
  Host.topK S8x1024x4 2 (FloatOps.cmpfTotal .gt) (farness a0 a1) sliceFits_S8x1024x4096_S8x1024x4
/-- the marks, -/
def mask : IVec S8x1024x4 1 :=
  cmpf .olt (Host.negf (top a0 a1).1) (broadcastInDim S8x1024x4 ![] bcast_S_S8x1024x4 (constant S_ .f32 0x40000000#32))
/-- and the numbers, 4096 where there is no mark. -/
def ids : IVec S8x1024x4 32 :=
  select (mask a0 a1) (top a0 a1).2 (broadcastInDim S8x1024x4 ![] bcast_S_S8x1024x4 (id (constantI S_ 32 4096#32)))

/-- A square is not negative, at infinity either. -/
theorem zero_le_square (x : EReal) : 0 ≤ x * x := by
  rcases le_total 0 x with h | h
  · exact mul_nonneg h h
  · rw [← neg_mul_neg]; exact mul_nonneg (EReal.neg_nonneg.2 h) (EReal.neg_nonneg.2 h)

theorem max_root (x y : EReal) : Ideal.sqrt (max (0 + (x * x + y * y)) 0) = root x y := by
  rw [zero_add, max_eq_left (add_nonneg (zero_le_square x) (zero_le_square y))]; rfl

variable (b : Fin 8) (t : Fin 1024)

theorem diffs_apply (k : Fin 4096) (c : Fin 2) : diffs a0 a1 (ix4 b t k c) = (a0 (ix3 b t (c.castLE (by decide))) - a1 (ix3 b k (c.castLE (by decide))) : EReal) := by
  refine congrArg₂ (fun x y : EReal => x - y) ?_ ?_
  · refine (broadcastInDim_apply _ _ _ _ (ix4 b t (0 : Fin 1) c) fun a => by match a with | ⟨0, _⟩ => rfl | ⟨1, _⟩ => rfl | ⟨2, _⟩ => rfl | ⟨3, _⟩ => rfl).trans ?_
    refine (broadcastInDim_apply _ _ _ _ (ix3 b t c) fun a => by match a with | ⟨0, _⟩ => rfl | ⟨1, _⟩ => rfl | ⟨2, _⟩ => rfl).trans (congrArg a0 (funext fun a => Fin.ext ?_))
    match a with | ⟨0, _⟩ => exact Nat.zero_add _ | ⟨1, _⟩ => exact Nat.zero_add _ | ⟨2, _⟩ => exact Nat.zero_add _
  · refine (broadcastInDim_apply _ _ _ _ (ix4 b (0 : Fin 1) k c) fun a => by match a with | ⟨0, _⟩ => rfl | ⟨1, _⟩ => rfl | ⟨2, _⟩ => rfl | ⟨3, _⟩ => rfl).trans ?_
    refine (broadcastInDim_apply _ _ _ _ (ix3 b k c) fun a => by match a with | ⟨0, _⟩ => rfl | ⟨1, _⟩ => rfl | ⟨2, _⟩ => rfl).trans (congrArg a1 (funext fun a => Fin.ext ?_))
    match a with | ⟨0, _⟩ => exact Nat.zero_add _ | ⟨1, _⟩ => exact Nat.zero_add _ | ⟨2, _⟩ => exact Nat.zero_add _

/-- The sum of the squares runs over the two coordinates. -/
theorem reduces_pair : S8x1024x4096x2.Reduces [3] S8x1024x4096 := by decide
theorem lift_pair (k : Fin 4096) (c : Fin 2) : reduces_pair.lift (ix3 b t k) c = ix4 b t k c := by
  funext a; apply Fin.ext; match a with | ⟨0, _⟩ => rfl | ⟨1, _⟩ => rfl | ⟨2, _⟩ => rfl | ⟨3, _⟩ => rfl

theorem squares_apply (x : FVec Ideal S8x1024x4096x2 .f32) (k : Fin 4096) :
    Ideal.hostReduceAdd reducesTo_S8x1024x4096x2_S8x1024x4096_d3 (mulf x x) (0 : EReal) (ix3 b t k)
      = (0 : EReal) + (x (ix4 b t k 0) * x (ix4 b t k 0) + x (ix4 b t k 1) * x (ix4 b t k 1) : EReal) := by
  rw [Ideal.hostReduceAdd_single reducesTo_S8x1024x4096x2_S8x1024x4096_d3 reduces_pair]
  refine congrArg (fun v : EReal => 0 + v) ((Fin.sum_univ_two _).trans ?_)
  rw [lift_pair, lift_pair]; rfl

theorem farness_apply (k : Fin 4096) : farness a0 a1 (ix3 b t k) = (-away a0 a1 b t k : EReal) := by
  have h0 : (Scalar.ofBits .f32 0x00000000#32 : Ideal .f32) = (0 : EReal) := Ideal.ofBits_zero_f32
  show -(Ideal.sqrt (max (Ideal.hostReduceAdd reducesTo_S8x1024x4096x2_S8x1024x4096_d3 (mulf (diffs a0 a1) (diffs a0 a1)) (Scalar.ofBits .f32 0x00000000#32 : Ideal .f32) (ix3 b t k))
    (Scalar.ofBits .f32 0x00000000#32 : Ideal .f32))) = _
  rw [h0, squares_apply, diffs_apply, diffs_apply]
  exact congrArg Neg.neg (max_root _ _)

end Cert.Proof.ReferenceIdeal

end
-- ==== Proof.ReferenceIdeal.Top.lean ====
/-
  The reference's four greatest of the negated distances are the four nearest detections in order; its marks and its numbers.
-/
module

public import proofs.«01_k».proof.Proof.ReferenceIdeal.Nearest

@[expose] public section

noncomputable section

namespace Cert.Proof.ReferenceIdeal

open Cert.ReferenceIdeal Cert.ReferenceIdeal.Gen
open Idealize.ShloMosaic Idealize.ShloMosaic.ValueIdx

section Sorted

variable (b : Fin 8) (t : Fin 1024)

/-- Another entry of the same track. -/
theorem along_eq (e k : Fin 4096) : (ix3 b t e : S8x1024x4096.Idx).along (2 : Fin 3) k = ix3 b t k := by
  funext a; match a with | ⟨0, _⟩ => rfl | ⟨1, _⟩ => rfl | ⟨2, _⟩ => rfl

/-- A sort of the tracks' entries with a payload, read at an entry. -/
theorem sorted_apply {α β : Type} (c : α × β → α × β → BitVec 1) (x : S8x1024x4096.Idx → α) (y : S8x1024x4096.Idx → β) (f : Fin 4096 → Fin 4096 → Bool)
    (hf : ∀ k k', (c (x (ix3 b t k), y (ix3 b t k)) (x (ix3 b t k'), y (ix3 b t k')) == 1#1) = f k k') (e : Fin 4096) :
    (Host.sort2 S8x1024x4096 2 c x y).1 (ix3 b t e) = x (ix3 b t (sortedFrom f e)) ∧ (Host.sort2 S8x1024x4096 2 c x y).2 (ix3 b t e) = y (ix3 b t (sortedFrom f e)) := by
  have hs : (fun k k' : Fin 4096 => c (x ((ix3 b t e : S8x1024x4096.Idx).along (2 : Fin 3) k), y ((ix3 b t e : S8x1024x4096.Idx).along (2 : Fin 3) k))
      (x ((ix3 b t e : S8x1024x4096.Idx).along (2 : Fin 3) k'), y ((ix3 b t e : S8x1024x4096.Idx).along (2 : Fin 3) k')) == 1#1) = f :=
    funext fun k => funext fun k' => by rw [along_eq, along_eq]; exact hf k k'
  have hi := along_eq b t e (sortedFrom f e)
  rw [← hs] at hi ⊢
  unfold Host.sort2
  rw [dif_pos (show 2 < S8x1024x4096.rank by decide)]
  exact ⟨congrArg x hi, congrArg y hi⟩

end Sorted

variable (a0 : FVec Ideal S8x1024x8 .f32) (a1 : FVec Ideal S8x4096x7 .f32) (b : Fin 8) (t : Fin 1024) (h : Fin 4)

/-- Of two negated distances the greater is the nearer's. -/
theorem greater_eq (k k' : Fin 4096) :
    (FloatOps.cmpfTotal (F := Ideal) (φ := .f32) .gt (farness a0 a1 (ix3 b t k)) (farness a0 a1 (ix3 b t k')) == 1#1) = nearer a0 a1 b t k k' := by
  rw [farness_apply, farness_apply]
  show (BitVec.ofBool (decide (-away a0 a1 b t k' < -away a0 a1 b t k)) == 1#1) = _
  unfold nearer
  by_cases hl : away a0 a1 b t k < away a0 a1 b t k'
  · rw [decide_eq_true hl, decide_eq_true (EReal.neg_lt_neg_iff.2 hl)]; rfl
  · rw [decide_eq_false hl, decide_eq_false fun q => hl (EReal.neg_lt_neg_iff.1 q)]; rfl

theorem slice_apply {α : Type} (x : S8x1024x4096.Idx → α) :
    extractStridedSlice S8x1024x4 (fun _ => 0) x sliceFits_S8x1024x4096_S8x1024x4 (ix3 b t h) = x (ix3 b t ⟨h.val, h.isLt.trans (by decide)⟩) := by
  refine congrArg x (funext fun a => Fin.ext ?_)
  match a with | ⟨0, _⟩ => exact Nat.zero_add _ | ⟨1, _⟩ => exact Nat.zero_add _ | ⟨2, _⟩ => exact Nat.zero_add _

/-- The entries' numbers along a track, and the sort of the negated distances with those. -/
def numbers : IVec S8x1024x4096 32 := fun i => if hd : 2 < S8x1024x4096.rank then iotaInDim S8x1024x4096 32 ⟨2, hd⟩ i else 0#32
def sorted : FVec Ideal S8x1024x4096 .f32 × IVec S8x1024x4096 32 :=
  Host.sort2 S8x1024x4096 2 (fun l r => FloatOps.cmpfTotal (F := Ideal) (φ := .f32) .gt l.1 r.1) (farness a0 a1) numbers
theorem top_eq : top a0 a1 = (extractStridedSlice S8x1024x4 (fun _ => 0) (sorted a0 a1).1 sliceFits_S8x1024x4096_S8x1024x4,
    extractStridedSlice S8x1024x4 (fun _ => 0) (sorted a0 a1).2 sliceFits_S8x1024x4096_S8x1024x4) := rfl
theorem numbers_apply (k : Fin 4096) : numbers (ix3 b t k) = BitVec.ofNat 32 k.val := by
  unfold numbers; rw [dif_pos (show 2 < S8x1024x4096.rank by decide)]; rfl
theorem sorted_value (e : Fin 4096) : (sorted a0 a1).1 (ix3 b t e) = farness a0 a1 (ix3 b t (sortedFrom (nearer a0 a1 b t) e)) :=
  (sorted_apply b t _ (farness a0 a1) numbers (nearer a0 a1 b t) (greater_eq a0 a1 b t) e).1
theorem sorted_number (e : Fin 4096) : (sorted a0 a1).2 (ix3 b t e) = numbers (ix3 b t (sortedFrom (nearer a0 a1 b t) e)) :=
  (sorted_apply b t _ (farness a0 a1) numbers (nearer a0 a1 b t) (greater_eq a0 a1 b t) e).2

theorem top_value : (top a0 a1).1 (ix3 b t h) = (-nthAway a0 a1 b t h : EReal) := by
  rw [top_eq]
  refine (slice_apply b t h (sorted a0 a1).1).trans ?_
  rw [sorted_value, farness_apply]; rfl
theorem top_number : (top a0 a1).2 (ix3 b t h) = BitVec.ofNat 32 (nth a0 a1 b t h).val := by
  rw [top_eq]
  refine (slice_apply b t h (sorted a0 a1).2).trans ?_
  rw [sorted_number, numbers_apply]; rfl

/-- The third result. -/
theorem mask_apply : mask a0 a1 (ix3 b t h) = marks a0 a1 b t h := by
  show within (-(top a0 a1).1 (ix3 b t h) : EReal) = _
  rw [top_value, neg_neg]; rfl

theorem ids_apply : ids a0 a1 (ix3 b t h) = chosen a0 a1 b t h := by
  show Scalar.select (mask a0 a1 (ix3 b t h)) ((top a0 a1).2 (ix3 b t h)) 4096#32 = _
  rw [mask_apply, top_number]; rfl

end Cert.Proof.ReferenceIdeal

end
-- ==== Proof.ReferenceIdeal.Rows.lean ====
/-
  The reference's boxes, and its first two results, over the extended reals.
-/
module

public import proofs.«01_k».proof.Proof.ReferenceIdeal.Top
public import Idealize.ShloMosaic.Lib.Routing.OpsPair
public import Idealize.ShloMosaic.Lib.ValueIdxRank6

@[expose] public section

noncomputable section

namespace Cert.Proof.ReferenceIdeal

open Cert.ReferenceIdeal Cert.ReferenceIdeal.Gen
open Idealize.ShloMosaic Idealize.ShloMosaic.ValueIdx

variable (a0 : FVec Ideal S8x1024x8 .f32) (a1 : FVec Ideal S8x4096x7 .f32) (a2 : FVec Ideal S8x10x1024x8 .f32)

/-- The detections with a row of zeros after each batch's, -/
def rows : FVec Ideal S8x4097x7 .f32 :=
  concatenate S8x4097x7 1 [⟨S8x4096x7, a1⟩, ⟨S8x1x7, broadcastInDim S8x1x7 ![] bcast_S_S8x1x7 (constant S_ .f32 0x00000000#32)⟩] concatenates_S8x4096x7_S8x1x7_S8x4097x7_d1
/-- the batches' numbers, -/
def batches : IVec S8x1x1 32 := shapeCast _ (iotaInDim S8 32 0) shapeCasts_S8_S8x1x1
def wrapped : IVec S8x1x1 32 :=
  select (cmpi .slt batches (broadcastInDim S8x1x1 ![] bcast_S_S8x1x1 (constantI S_ 32 0#32))) (addi batches (broadcastInDim S8x1x1 ![] bcast_S_S8x1x1 (constantI S_ 32 8#32))) batches
/-- the batch and the row of every box, -/
def places : IVec S8x1024x4x2 32 :=
  concatenate S8x1024x4x2 3 [⟨S8x1024x4x1, broadcastInDim S8x1024x4x1 ![0, 1, 2] bcast_S8x1024x4_S8x1024x4x1_0_1_2 (broadcastInDim S8x1024x4 ![0, 1, 2] bcast_S8x1x1_S8x1024x4_0_1_2 wrapped)⟩,
    ⟨S8x1024x4x1, broadcastInDim S8x1024x4x1 ![0, 1, 2] bcast_S8x1024x4_S8x1024x4x1_0_1_2
      (select (cmpi .slt (ids a0 a1) (broadcastInDim S8x1024x4 ![] bcast_S_S8x1024x4 (constantI S_ 32 0#32)))
        (addi (ids a0 a1) (broadcastInDim S8x1024x4 ![] bcast_S_S8x1024x4 (constantI S_ 32 4097#32))) (ids a0 a1))⟩] concatenates_S8x1024x4x1_S8x1024x4x1_S8x1024x4x2_d3
/-- the boxes, each with a zero after it, -/
def boxes : FVec Ideal S8x1024x4x8 .f32 :=
  concatenate S8x1024x4x8 3 [⟨S8x1024x4x7, Host.gather gather_S8x4097x7_S8x1024x4x2_S8x1024x4x7_3_01_n_n_01_3_117 (rows a1) (places a0 a1)⟩,
    ⟨S8x1024x4x1, broadcastInDim S8x1024x4x1 ![] bcast_S_S8x1024x4x1 (constant S_ .f32 0x00000000#32)⟩] concatenates_S8x1024x4x7_S8x1024x4x1_S8x1024x4x8_d3
/-- the second result, and the first. -/
def res1 : FVec Ideal S8x1x1024x5x8 .f32 :=
  concatenate S8x1x1024x5x8 3 [⟨S8x1x1024x1x8, broadcastInDim S8x1x1024x1x8 ![0, 2, 4] bcast_S8x1024x8_S8x1x1024x1x8_0_2_4 a0⟩,
    ⟨S8x1x1024x4x8, broadcastInDim S8x1x1024x4x8 ![0, 2, 3, 4] bcast_S8x1024x4x8_S8x1x1024x4x8_0_2_3_4 (boxes a0 a1)⟩] concatenates_S8x1x1024x1x8_S8x1x1024x4x8_S8x1x1024x5x8_d3
def res0 : FVec Ideal S8x11x1024x5x8 .f32 :=
  concatenate S8x11x1024x5x8 1 [⟨S8x1x1024x5x8, res1 a0 a1⟩,
    ⟨S8x10x1024x5x8, shapeCast _ (broadcastInDim S8x10x1024x1x5x8 ![0, 1, 2, 3, 5] bcast_S8x10x1024x1x8_S8x10x1024x1x5x8_0_1_2_3_5
      (broadcastInDim S8x10x1024x1x8 ![0, 1, 2, 4] bcast_S8x10x1024x8_S8x10x1024x1x8_0_1_2_4 a2)) shapeCasts_S8x10x1024x1x5x8_S8x10x1024x5x8⟩]
    concatenates_S8x1x1024x5x8_S8x10x1024x5x8_S8x11x1024x5x8_d1

/-- A row's seven columns are the detection's box, zeros after the last detection. -/
theorem rows_apply (b : Fin 8) (n : Fin 4097) (c : Fin 7) : rows a1 (ix3 b n c) = boxOf a1 b n (c.castLE (by decide)) := by
  unfold rows boxOf
  split
  · rename_i h
    exact concatenate_pair_apply_left (t := S8x4097x7) (s₁ := S8x4096x7) (s₂ := S8x1x7) 1 _ _ _ (ix3 b n c) rfl (ix3 b ⟨n.val, h.1⟩ c) fun a =>
      match a with | ⟨0, _⟩ => rfl | ⟨1, _⟩ => rfl | ⟨2, _⟩ => rfl
  · rename_i h
    have hn : n.val = 4096 := by
      have := n.isLt
      by_contra hn; exact h ⟨by omega, c.isLt⟩
    exact (concatenate_pair_apply_right (t := S8x4097x7) (s₁ := S8x4096x7) (s₂ := S8x1x7) 1 _ _ _ (ix3 b n c) rfl rfl (ix3 b (0 : Fin 1) c) (fun a ha =>
      match a, ha with | ⟨0, _⟩, _ => rfl | ⟨1, _⟩, ha => absurd rfl ha | ⟨2, _⟩, _ => rfl) hn.symm).trans Ideal.ofBits_zero_f32

section Entry

variable (b : Fin 8) (t : Fin 1024) (h : Fin 4)

theorem batches_apply : batches (ix3 b (0 : Fin 1) (0 : Fin 1)) = BitVec.ofNat 32 b.val :=
  shapeCast_apply _ _ _ (ix1 b) (by
    rw [Shape.rowMajor_val_one, Shape.rowMajor_val_three]
    show b.val = (b.val * 1 + 0) * 1 + 0
    omega)

theorem wrapped_apply : wrapped (ix3 b (0 : Fin 1) (0 : Fin 1)) = BitVec.ofNat 32 b.val := by
  have h1 := b.isLt
  show Scalar.select (IntOp.cmpi .slt (batches (ix3 b (0 : Fin 1) (0 : Fin 1))) 0#32) _ (batches (ix3 b (0 : Fin 1) (0 : Fin 1))) = _
  rw [batches_apply]
  exact Routing.wrap_of_lt _ _ (by rw [BitVec.toNat_ofNat]; omega)

/-- The place of a box: its batch, -/
theorem places_batch : places a0 a1 (ix4 b t h (0 : Fin 2)) = BitVec.ofNat 32 b.val := by
  rw [← wrapped_apply b]
  refine (concatenate_pair_apply_left (t := S8x1024x4x2) (s₁ := S8x1024x4x1) (s₂ := S8x1024x4x1) 3 _ _ _ (ix4 b t h (0 : Fin 2)) rfl (ix4 b t h (0 : Fin 1)) fun a =>
    match a with | ⟨0, _⟩ => rfl | ⟨1, _⟩ => rfl | ⟨2, _⟩ => rfl | ⟨3, _⟩ => rfl).trans ?_
  refine (broadcastInDim_apply _ _ _ _ (ix3 b t h) fun a => match a with | ⟨0, _⟩ => rfl | ⟨1, _⟩ => rfl | ⟨2, _⟩ => rfl).trans ?_
  exact broadcastInDim_apply _ _ _ _ (ix3 b (0 : Fin 1) (0 : Fin 1)) fun a => match a with | ⟨0, _⟩ => rfl | ⟨1, _⟩ => rfl | ⟨2, _⟩ => rfl
/-- and its row. -/
theorem places_row : places a0 a1 (ix4 b t h (1 : Fin 2)) = chosen a0 a1 b t h := by
  refine (concatenate_pair_apply_right (t := S8x1024x4x2) (s₁ := S8x1024x4x1) (s₂ := S8x1024x4x1) 3 _ _ _ (ix4 b t h (1 : Fin 2)) rfl rfl (ix4 b t h (0 : Fin 1)) (fun a ha =>
    match a, ha with | ⟨0, _⟩, _ => rfl | ⟨1, _⟩, _ => rfl | ⟨2, _⟩, _ => rfl | ⟨3, _⟩, ha => absurd rfl ha) rfl).trans ?_
  refine (broadcastInDim_apply _ _ _ _ (ix3 b t h) fun a => match a with | ⟨0, _⟩ => rfl | ⟨1, _⟩ => rfl | ⟨2, _⟩ => rfl).trans ?_
  show Scalar.select (IntOp.cmpi .slt (ids a0 a1 (ix3 b t h)) 0#32) _ (ids a0 a1 (ix3 b t h)) = _
  rw [ids_apply]
  have := chosen_le a0 a1 b t h
  exact Routing.wrap_of_lt _ _ (by omega)

/-- Where a box's batch and row are read among the places. -/
theorem siIdx_eq (c : Fin 7) (n : Fin 2) :
    gather_S8x4097x7_S8x1024x4x2_S8x1024x4x7_3_01_n_n_01_3_117.siIdx (ix4 b t h c) n = ix4 b t h n := by
  funext a; apply Fin.ext; match a with | ⟨0, _⟩ => rfl | ⟨1, _⟩ => rfl | ⟨2, _⟩ => rfl | ⟨3, _⟩ => rfl

/-- A small number read signed and kept within a bound it is below. -/
theorem clamp_small (v : BitVec 32) (n : ℕ) (hn : n < 2 ^ 31) (hv : v.toNat ≤ n) : min v.toInt.toNat n = v.toNat := by
  rw [BitVec.toInt_eq_toNat_of_lt (by omega)]
  exact Nat.min_eq_left hv

/-- A gathered entry is the row's. -/
theorem gathered_apply (c : Fin 7) : Host.gather gather_S8x4097x7_S8x1024x4x2_S8x1024x4x7_3_01_n_n_01_3_117 (rows a1) (places a0 a1) (ix4 b t h c)
    = boxOf a1 b (chosen a0 a1 b t h).toNat (c.castLE (by decide)) := by
  have hc := chosen_le a0 a1 b t h
  have hb := b.isLt
  rw [← rows_apply a1 b ⟨(chosen a0 a1 b t h).toNat, by omega⟩ c]
  refine congrArg (rows a1) (funext fun a => Fin.ext ?_)
  match a with
  | ⟨0, _⟩ =>
    show min (places a0 a1 (gather_S8x4097x7_S8x1024x4x2_S8x1024x4x7_3_01_n_n_01_3_117.siIdx (ix4 b t h c) (0 : Fin 2))).toInt.toNat 7 + 0 + 0 = b.val
    rw [siIdx_eq, places_batch, clamp_small _ _ (by decide) (by rw [BitVec.toNat_ofNat]; omega), BitVec.toNat_ofNat]; omega
  | ⟨1, _⟩ =>
    show min (places a0 a1 (gather_S8x4097x7_S8x1024x4x2_S8x1024x4x7_3_01_n_n_01_3_117.siIdx (ix4 b t h c) (1 : Fin 2))).toInt.toNat 4096 + 0 + 0 = (chosen a0 a1 b t h).toNat
    rw [siIdx_eq, places_row, clamp_small _ _ (by decide) hc]; rfl
  | ⟨2, _⟩ => exact Nat.zero_add _

/-- The box of a track and a round. -/
theorem boxes_apply (c : Fin 8) : boxes a0 a1 (ix4 b t h c) = boxOf a1 b (chosen a0 a1 b t h).toNat c := by
  by_cases hc : c.val < 7
  · exact (concatenate_pair_apply_left (t := S8x1024x4x8) (s₁ := S8x1024x4x7) (s₂ := S8x1024x4x1) 3 _ _ _ (ix4 b t h c) rfl (ix4 b t h ⟨c.val, hc⟩) fun a =>
      match a with | ⟨0, _⟩ => rfl | ⟨1, _⟩ => rfl | ⟨2, _⟩ => rfl | ⟨3, _⟩ => rfl).trans (gathered_apply a0 a1 b t h ⟨c.val, hc⟩)
  · have h7 : c.val = 7 := by have := c.isLt; omega
    refine (concatenate_pair_apply_right (t := S8x1024x4x8) (s₁ := S8x1024x4x7) (s₂ := S8x1024x4x1) 3 _ _ _ (ix4 b t h c) rfl rfl (ix4 b t h (0 : Fin 1)) (fun a ha =>
      match a, ha with | ⟨0, _⟩, _ => rfl | ⟨1, _⟩, _ => rfl | ⟨2, _⟩, _ => rfl | ⟨3, _⟩, ha => absurd rfl ha) h7.symm).trans ?_
    unfold boxOf
    rw [dif_neg fun q => hc q.2]; exact Ideal.ofBits_zero_f32

end Entry

/-- The second result. -/
theorem res1_apply (b : Fin 8) (z : Fin 1) (t : Fin 1024) (h : Fin 5) (c : Fin 8) : res1 a0 a1 (ix5 b z t h c) = candidates a0 a1 b t h c := by
  unfold res1 candidates
  split
  · rename_i e
    refine (concatenate_pair_apply_left (t := S8x1x1024x5x8) (s₁ := S8x1x1024x1x8) (s₂ := S8x1x1024x4x8) 3 _ _ _ (ix5 b z t h c) rfl (ix5 b z t (0 : Fin 1) c) fun a =>
      match a with | ⟨0, _⟩ => rfl | ⟨1, _⟩ => rfl | ⟨2, _⟩ => rfl | ⟨3, _⟩ => e.symm | ⟨4, _⟩ => rfl).trans ?_
    exact broadcastInDim_apply _ _ _ _ _ fun a => match a with | ⟨0, _⟩ => rfl | ⟨1, _⟩ => rfl | ⟨2, _⟩ => rfl
  · rename_i e
    have := h.isLt
    refine (concatenate_pair_apply_right (t := S8x1x1024x5x8) (s₁ := S8x1x1024x1x8) (s₂ := S8x1x1024x4x8) 3 _ _ _ (ix5 b z t h c) rfl rfl
      (ix5 b z t (⟨h.val - 1, by omega⟩ : Fin 4) c) (fun a ha =>
        match a, ha with | ⟨0, _⟩, _ => rfl | ⟨1, _⟩, _ => rfl | ⟨2, _⟩, _ => rfl | ⟨3, _⟩, ha => absurd rfl ha | ⟨4, _⟩, _ => rfl)
      (Nat.sub_add_cancel (Nat.one_le_iff_ne_zero.2 e))).trans ?_
    refine (broadcastInDim_apply _ _ _ _ (ix4 b t (⟨h.val - 1, by omega⟩ : Fin 4) c) fun a => match a with | ⟨0, _⟩ => rfl | ⟨1, _⟩ => rfl | ⟨2, _⟩ => rfl | ⟨3, _⟩ => rfl).trans ?_
    exact boxes_apply a0 a1 b t _ c

/-- The trajectories, each five times. -/
theorem traj_apply (b : Fin 8) (l : Fin 10) (t : Fin 1024) (h : Fin 5) (c : Fin 8) :
    shapeCast S8x10x1024x5x8 (broadcastInDim S8x10x1024x1x5x8 ![0, 1, 2, 3, 5] bcast_S8x10x1024x1x8_S8x10x1024x1x5x8_0_1_2_3_5
      (broadcastInDim S8x10x1024x1x8 ![0, 1, 2, 4] bcast_S8x10x1024x8_S8x10x1024x1x8_0_1_2_4 a2)) shapeCasts_S8x10x1024x1x5x8_S8x10x1024x5x8 (ix5 b l t h c)
      = a2 (ix4 b l t c) := by
  refine (shapeCast_apply _ _ _ (ix6 b l t (0 : Fin 1) h c) ?_).trans ?_
  · rw [Shape.rowMajor_val_six, Shape.rowMajor_val_five]
    show ((((b.val * 10 + l.val) * 1024 + t.val) * 1 + 0) * 5 + h.val) * 8 + c.val = (((b.val * 10 + l.val) * 1024 + t.val) * 5 + h.val) * 8 + c.val
    omega
  · refine (broadcastInDim_apply _ _ _ _ (ix5 b l t (0 : Fin 1) c) fun a => match a with | ⟨0, _⟩ => rfl | ⟨1, _⟩ => rfl | ⟨2, _⟩ => rfl | ⟨3, _⟩ => rfl | ⟨4, _⟩ => rfl).trans ?_
    exact broadcastInDim_apply _ _ _ _ (ix4 b l t c) fun a => match a with | ⟨0, _⟩ => rfl | ⟨1, _⟩ => rfl | ⟨2, _⟩ => rfl | ⟨3, _⟩ => rfl

/-- The first result. -/
theorem res0_apply (b : Fin 8) (l : Fin 11) (t : Fin 1024) (h : Fin 5) (c : Fin 8) : res0 a0 a1 a2 (ix5 b l t h c) = hypotheses a0 a1 a2 b l t h c := by
  unfold res0 hypotheses
  split
  · rename_i e
    exact (concatenate_pair_apply_left (t := S8x11x1024x5x8) (s₁ := S8x1x1024x5x8) (s₂ := S8x10x1024x5x8) 1 _ _ _ (ix5 b l t h c) rfl (ix5 b (0 : Fin 1) t h c) fun a =>
      match a with | ⟨0, _⟩ => rfl | ⟨1, _⟩ => e.symm | ⟨2, _⟩ => rfl | ⟨3, _⟩ => rfl | ⟨4, _⟩ => rfl).trans (res1_apply a0 a1 b 0 t h c)
  · rename_i e
    have := l.isLt
    exact (concatenate_pair_apply_right (t := S8x11x1024x5x8) (s₁ := S8x1x1024x5x8) (s₂ := S8x10x1024x5x8) 1 _ _ _ (ix5 b l t h c) rfl rfl
      (ix5 b (⟨l.val - 1, by omega⟩ : Fin 10) t h c) (fun a ha =>
        match a, ha with | ⟨0, _⟩, _ => rfl | ⟨1, _⟩, ha => absurd rfl ha | ⟨2, _⟩, _ => rfl | ⟨3, _⟩, _ => rfl | ⟨4, _⟩, _ => rfl)
      (Nat.sub_add_cancel (Nat.one_le_iff_ne_zero.2 e))).trans (traj_apply a2 b _ t h c)

end Cert.Proof.ReferenceIdeal

end
-- ==== Proof.Equation.lean ====
/-
  The equation: kernel and reference, over the extended reals and from the same arguments, end with the same three results.
-/
module

public import proofs.«01_k».proof.Defs
public import proofs.«01_k».proof.Proof.KernelIdeal.Main
public import proofs.«01_k».proof.Proof.KernelIdeal.Table
public import proofs.«01_k».proof.Proof.ReferenceIdeal.Rows
public import proofs.«01_k».proof.Proof.Gen.ReferenceIdeal.Run

@[expose] public section

noncomputable section

namespace Cert.Proof

open Idealize.ShloMosaic Idealize.ShloMosaic.ValueIdx Idealize.SL.Sem

section Arrays

variable (a0 : FVec Ideal Cert.ReferenceIdeal.S8x1024x8 .f32) (a1 : FVec Ideal Cert.ReferenceIdeal.S8x4096x7 .f32) (a2 : FVec Ideal Cert.ReferenceIdeal.S8x10x1024x8 .f32)

/-- The hypotheses of the kernel are the reference's. -/
theorem out0_eq : KernelIdeal.out0 (F := Ideal) a0 a1 a2 = ReferenceIdeal.res0 a0 a1 a2 := funext fun j => by
  rw [ValueIdx.eq_ix5 j]
  exact (KernelIdeal.out0_apply a0 a1 a2 _ _ _ _ _).trans (ReferenceIdeal.res0_apply a0 a1 a2 _ _ _ _ _).symm

/-- The candidates of the kernel are the reference's. -/
theorem out1_eq : KernelIdeal.out1 (F := Ideal) a0 a1 = ReferenceIdeal.res1 a0 a1 := funext fun j => by
  rw [ValueIdx.eq_ix5 j]
  exact (KernelIdeal.out1_apply a0 a1 _ _ _ _ _).trans (ReferenceIdeal.res1_apply a0 a1 _ _ _ _ _).symm

/-- The marks of the kernel are the reference's. -/
theorem out2_eq : KernelIdeal.out2 (F := Ideal) a0 a1 = ReferenceIdeal.mask a0 a1 := funext fun j => by
  rw [ValueIdx.eq_ix3 j]
  exact (KernelIdeal.out2_apply a0 a1 _ _ _).trans (ReferenceIdeal.mask_apply a0 a1 _ _ _).symm

end Arrays

section Reference

open Cert.ReferenceIdeal

variable (m : (ℓ : Loc nD τ sig) → Buf (Elt Ideal) ℓ) (c : Dev nD)

/-- The second result of the reference's program is the candidates as composed above. -/
theorem v40_eq : Value.res_main_v40 m c = ReferenceIdeal.res1 (m ((c.tc : Thread nD τ).loc main_arg0)) (m ((c.tc : Thread nD τ).loc main_arg1)) := by
  unfold Value.res_main_v40
  rfl

/-- The first result of the reference's program is the hypotheses as composed above. -/
theorem v44_eq : Value.res_main_v44 m c =
    ReferenceIdeal.res0 (m ((c.tc : Thread nD τ).loc main_arg0)) (m ((c.tc : Thread nD τ).loc main_arg1)) (m ((c.tc : Thread nD τ).loc main_arg2)) := by
  unfold Value.res_main_v44
  rfl

end Reference

/-- From the same arguments, kernel and reference end with the same three results. -/
theorem algebraic : algebraic_KernelIdeal_ReferenceIdeal (hKernelIdeal := Cert.KernelIdeal.Gen.facts) (hReferenceIdeal := Cert.ReferenceIdeal.Gen.facts) := by
  intro m g m' g' _ hm
  refine ⟨fun c => KernelIdeal.out0 (KernelIdeal.arg0 m c) (KernelIdeal.arg1 m c) (KernelIdeal.arg2 m c),
    fun c => KernelIdeal.out1 (KernelIdeal.arg0 m c) (KernelIdeal.arg1 m c),
    fun c => KernelIdeal.out2 (KernelIdeal.arg0 m c) (KernelIdeal.arg1 m c),
    (θ_run _ _ _).mono (fun _ h => h.1) (KernelIdeal.run (F := Ideal) m g),
    (θ_run _ _ _).mono (fun _ h c => ?_) (Cert.ReferenceIdeal.Value.run (F := Ideal) m' g')⟩
  obtain ⟨h0, h1, h2, hargs⟩ := h c
  obtain ⟨e0, e1, e2⟩ := hm c
  refine ⟨(h0.trans (v44_eq m' c)).trans ?_, (h1.trans (v40_eq m' c)).trans ?_,
    (h2.trans (show _ = ReferenceIdeal.mask (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) from rfl)).trans ?_, hargs⟩
  · rw [e0, e1, e2]; exact (out0_eq _ _ _).symm
  · rw [e0, e1]; exact (out1_eq _ _).symm
  · rw [e0, e1]; exact (out2_eq _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
